-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8x8192x128 : Shape := ⟨4, ![2, 8, 8192, 128]⟩
abbrev S2x512x8192 : Shape := ⟨3, ![2, 512, 8192]⟩
abbrev S36 : Shape := ⟨1, ![36]⟩
abbrev S1x2x1024x128 : Shape := ⟨4, ![1, 2, 1024, 128]⟩
abbrev S1 : Shape := ⟨1, ![1]⟩
abbrev S1x128x1024 : Shape := ⟨3, ![1, 128, 1024]⟩
abbrev S2x1x1024 : Shape := ⟨3, ![2, 1, 1024]⟩
abbrev S2x64x1024 : Shape := ⟨3, ![2, 64, 1024]⟩
abbrev S1x1x1024x128 : Shape := ⟨4, ![1, 1, 1024, 128]⟩
abbrev S1024x128 : Shape := ⟨2, ![1024, 128]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x64x1024 : Shape := ⟨3, ![1, 64, 1024]⟩
abbrev S64x1024 : Shape := ⟨2, ![64, 1024]⟩

abbrev nBuf : Space → Nat
  | .hbm => 4
  | .vmem => 11
  | .smem => 3
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x512x8192, .f32⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x1024x128, .bf16⟩
  | .local _ .vmem, ⟨3, _⟩ => ⟨S1x2x1024x128, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .f32⟩
  | .local _ .vmem, ⟨7, _⟩ => ⟨S1x128x1024, .f32⟩
  | .local _ .vmem, ⟨8, _⟩ => ⟨S2x1x1024, .f32⟩
  | .local _ .vmem, ⟨9, _⟩ => ⟨S2x1x1024, .f32⟩
  | .local _ .vmem, ⟨10, _⟩ => ⟨S2x64x1024, .f32⟩
  | .local _ .smem, ⟨0, _⟩ => ⟨S36, .i32⟩
  | .local _ .smem, ⟨1, _⟩ => ⟨S36, .i32⟩
  | .local _ .smem, ⟨2, _⟩ => ⟨S36, .i32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 36], ![false, false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond4 (v5 : BitVec 32) : BitVec 1 :=
  let c2_i32 : BitVec 32 := 2#32
  let v17 : BitVec 32 := Scalar.andi v5 c2_i32
  let c2_i32_6 : BitVec 32 := 2#32
  let v18 : BitVec 1 := Scalar.cmpi .eq v17 c2_i32_6
  let v19 : BitVec 32 := Scalar.extui v18
  let c0_i32_7 : BitVec 32 := 0#32
  let v20 : BitVec 1 := Scalar.cmpi .ne v19 c0_i32_7
  v20

def cc0_transform_0 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let v10 : Index := Scalar.indexCast arg2
  let v11 : BitVec 32 := pf.at 1 (Rect.unit (s := S36) ![v10.toNat] S1.size (k0_off1_inb i)) numel1_S1
  let c0_i32_3 : BitVec 32 := 0#32
  ![arg0.toNat, v9.toNat, v11.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, arg1.toNat, v1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x8192x128 : Shape := ⟨4, ![2, 8, 8192, 128]⟩
abbrev S2x512x8192 : Shape := ⟨3, ![2, 512, 8192]⟩
abbrev S2x8x64x8192 : Shape := ⟨4, ![2, 8, 64, 8192]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩

abbrev nBuf : Space → Nat
  | .hbm => 36
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x512x8192, .f32⟩
  | .hbm, ⟨4, _⟩ => ⟨S2x8x64x8192, .f32⟩
  | .hbm, ⟨5, _⟩ => ⟨S2x8x8192x128, .f32⟩
  | .hbm, ⟨6, _⟩ => ⟨S2x8x8192x128, .f32⟩
  | .hbm, ⟨7, _⟩ => ⟨S8192, .i32⟩
  | .hbm, ⟨8, _⟩ => ⟨S2x8x8192x8192, .f32⟩
  | .hbm, ⟨9, _⟩ => ⟨S_, .f32⟩
  | .hbm, ⟨10, _⟩ => ⟨S_, .f32⟩
  | .hbm, ⟨11, _⟩ => ⟨S2x8x8192x8192, .f32⟩
  | .hbm, ⟨12, _⟩ => ⟨S2x8x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S2x8x8192x8192, .i1⟩
  | .hbm, ⟨21, _⟩ => ⟨S2x8x8192x8192, .f32⟩
  | .hbm, ⟨22, _⟩ => ⟨S2x8x8192x8192, .f32⟩
  | .hbm, ⟨23, _⟩ => ⟨S_, .f32⟩
  | .hbm, ⟨24, _⟩ => ⟨S2x8x8192, .f32⟩
  | .hbm, ⟨25, _⟩ => ⟨S2x8x8192x1, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x64x8192, .f32⟩
  | .hbm, ⟨30, _⟩ => ⟨S_, .f32⟩
  | .hbm, ⟨31, _⟩ => ⟨S2x8x8192, .f32⟩
  | .hbm, ⟨32, _⟩ => ⟨S2x8x1x8192, .f32⟩
  | .hbm, ⟨33, _⟩ => ⟨S2x8x64x8192, .f32⟩
  | .hbm, ⟨34, _⟩ => ⟨S2x8x64x8192, .f32⟩
  | .hbm, ⟨35, _⟩ => ⟨S2x512x8192, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel2.lean ====
abbrev S2x8x8192x128 : Shape := ⟨4, ![2, 8, 8192, 128]⟩
abbrev S2x512x8192 : Shape := ⟨3, ![2, 512, 8192]⟩
abbrev S36 : Shape := ⟨1, ![36]⟩
abbrev S2x1024x8192 : Shape := ⟨3, ![2, 1024, 8192]⟩
abbrev S1x2x1024x128 : Shape := ⟨4, ![1, 2, 1024, 128]⟩
abbrev S1 : Shape := ⟨1, ![1]⟩
abbrev S1x256x1024 : Shape := ⟨3, ![1, 256, 1024]⟩
abbrev S2x1x1024 : Shape := ⟨3, ![2, 1, 1024]⟩
abbrev S2x128x1024 : Shape := ⟨3, ![2, 128, 1024]⟩
abbrev S1x1x1024x128 : Shape := ⟨4, ![1, 1, 1024, 128]⟩
abbrev S1024x128 : Shape := ⟨2, ![1024, 128]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩

abbrev nBuf : Space → Nat
  | .hbm => 4
  | .vmem => 11
  | .smem => 3
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x1024x8192, .f32⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x1024x128, .bf16⟩
  | .local _ .vmem, ⟨3, _⟩ => ⟨S1x2x1024x128, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S2x1x1024, .f32⟩
  | .local _ .vmem, ⟨9, _⟩ => ⟨S2x1x1024, .f32⟩
  | .local _ .vmem, ⟨10, _⟩ => ⟨S2x128x1024, .f32⟩
  | .local _ .smem, ⟨0, _⟩ => ⟨S36, .i32⟩
  | .local _ .smem, ⟨1, _⟩ => ⟨S36, .i32⟩
  | .local _ .smem, ⟨2, _⟩ => ⟨S36, .i32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 36], ![false, false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond4 (v5 : BitVec 32) : BitVec 1 :=
  let c2_i32 : BitVec 32 := 2#32
  let v17 : BitVec 32 := Scalar.andi v5 c2_i32
  let c2_i32_6 : BitVec 32 := 2#32
  let v18 : BitVec 1 := Scalar.cmpi .eq v17 c2_i32_6
  let v19 : BitVec 32 := Scalar.extui v18
  let c0_i32_7 : BitVec 32 := 0#32
  let v20 : BitVec 1 := Scalar.cmpi .ne v19 c0_i32_7
  v20

def cc0_transform_0 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  let c0_i32_0 : BitVec 32 := 0#32
  ![arg0.toNat, arg1.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let v10 : Index := Scalar.indexCast arg2
  let v11 : BitVec 32 := pf.at 1 (Rect.unit (s := S36) ![v10.toNat] S1.size (k0_off1_inb i)) numel1_S1
  let c0_i32_3 : BitVec 32 := 0#32
  ![arg0.toNat, v9.toNat, v11.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, arg1.toNat, v1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S2x8x8192x128 : Shape := ⟨4, ![2, 8, 8192, 128]⟩
abbrev S2x512x8192 : Shape := ⟨3, ![2, 512, 8192]⟩
abbrev S2x4x128x8192 : Shape := ⟨4, ![2, 4, 128, 8192]⟩
abbrev S2x8x128x8192 : Shape := ⟨4, ![2, 8, 128, 8192]⟩
abbrev S8192 : Shape := ⟨1, ![8192]⟩
abbrev S2x8x8192x8192 : Shape := ⟨4, ![2, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S2x1024x8192 : Shape := ⟨3, ![2, 1024, 8192]⟩

abbrev nBuf : Space → Nat
  | .hbm => 37
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8x8192x128, .bf16⟩
  | .hbm, ⟨2, _⟩ => ⟨S2x512x8192, .bf16⟩
  | .hbm, ⟨3, _⟩ => ⟨S2x512x8192, .f32⟩
  | .hbm, ⟨4, _⟩ => ⟨S2x4x128x8192, .f32⟩
  | .hbm, ⟨5, _⟩ => ⟨S2x8x128x8192, .f32⟩
  | .hbm, ⟨6, _⟩ => ⟨S2x8x8192x128, .f32⟩
  | .hbm, ⟨7, _⟩ => ⟨S2x8x8192x128, .f32⟩
  | .hbm, ⟨8, _⟩ => ⟨S8192, .i32⟩
  | .hbm, ⟨9, _⟩ => ⟨S2x8x8192x8192, .f32⟩
  | .hbm, ⟨10, _⟩ => ⟨S_, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S2x8x8192x8192, .i1⟩
  | .hbm, ⟨22, _⟩ => ⟨S2x8x8192x8192, .f32⟩
  | .hbm, ⟨23, _⟩ => ⟨S2x8x8192x8192, .f32⟩
  | .hbm, ⟨24, _⟩ => ⟨S_, .f32⟩
  | .hbm, ⟨25, _⟩ => ⟨S2x8x8192, .f32⟩
  | .hbm, ⟨26, _⟩ => ⟨S2x8x8192x1, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x128x8192, .f32⟩
  | .hbm, ⟨31, _⟩ => ⟨S_, .f32⟩
  | .hbm, ⟨32, _⟩ => ⟨S2x8x8192, .f32⟩
  | .hbm, ⟨33, _⟩ => ⟨S2x8x1x8192, .f32⟩
  | .hbm, ⟨34, _⟩ => ⟨S2x8x128x8192, .f32⟩
  | .hbm, ⟨35, _⟩ => ⟨S2x8x128x8192, .f32⟩
  | .hbm, ⟨36, _⟩ => ⟨S2x1024x8192, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel3.lean ====
abbrev S2x256x1024 : Shape := ⟨3, ![2, 256, 1024]⟩
abbrev S1x1024 : Shape := ⟨2, ![1, 1024]⟩
abbrev S1x1024x1024 : Shape := ⟨3, ![1, 1024, 1024]⟩
abbrev S1x128 : Shape := ⟨2, ![1, 128]⟩
abbrev S512x1024 : Shape := ⟨2, ![512, 1024]⟩
abbrev S1024 : Shape := ⟨1, ![1024]⟩
abbrev S1024x1024 : Shape := ⟨2, ![1024, 1024]⟩
abbrev S128 : Shape := ⟨1, ![128]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 13
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S512x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S128, .f32⟩
  | .hbm, ⟨10, _⟩ => ⟨S1x128, .f32⟩
  | .hbm, ⟨11, _⟩ => ⟨S512x512, .f32⟩
  | .hbm, ⟨12, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x256x1024 : Shape := ⟨3, ![2, 256, 1024]⟩
abbrev S1x1024 : Shape := ⟨2, ![1, 1024]⟩
abbrev S1x1024x1024 : Shape := ⟨3, ![1, 1024, 1024]⟩
abbrev S1x128 : Shape := ⟨2, ![1, 128]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1024x1024 : Shape := ⟨2, ![1024, 1024]⟩
abbrev S2x256x512 : Shape := ⟨3, ![2, 256, 512]⟩
abbrev S2x256x4x128 : Shape := ⟨4, ![2, 256, 4, 128]⟩
abbrev S128 : Shape := ⟨1, ![128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S512x512 : Shape := ⟨2, ![512, 512]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024, .f32⟩
  | .hbm, ⟨2, _⟩ => ⟨S1x1024x1024, .f32⟩
  | .hbm, ⟨3, _⟩ => ⟨S1x128, .f32⟩
  | .hbm, ⟨4, _⟩ => ⟨S1024, .f32⟩
  | .hbm, ⟨5, _⟩ => ⟨S2x256x1024, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x1024, .f32⟩
  | .hbm, ⟨17, _⟩ => ⟨S2x256x1024, .f32⟩
  | .hbm, ⟨18, _⟩ => ⟨S1x1x1024, .f32⟩
  | .hbm, ⟨19, _⟩ => ⟨S2x256x1024, .f32⟩
  | .hbm, ⟨20, _⟩ => ⟨S2x256x1024, .f32⟩
  | .hbm, ⟨21, _⟩ => ⟨S1024x1024, .f32⟩
  | .hbm, ⟨22, _⟩ => ⟨S2x256x1024, .f32⟩
  | .hbm, ⟨23, _⟩ => ⟨S2x256x512, .f32⟩
  | .hbm, ⟨24, _⟩ => ⟨S2x256x4x128, .f32⟩
  | .hbm, ⟨25, _⟩ => ⟨S128, .f32⟩
  | .hbm, ⟨26, _⟩ => ⟨S2x256x4x128, .f32⟩
  | .hbm, ⟨27, _⟩ => ⟨S_, .f32⟩
  | .hbm, ⟨28, _⟩ => ⟨S2x256x4, .f32⟩
  | .hbm, ⟨29, _⟩ => ⟨S2x256x4x1, .f32⟩
  | .hbm, ⟨30, _⟩ => ⟨S_, .f32⟩
  | .hbm, ⟨31, _⟩ => ⟨S2x256x4x1, .f32⟩
  | .hbm, ⟨32, _⟩ => ⟨S2x256x4x1, .f32⟩
  | .hbm, ⟨33, _⟩ => ⟨S_, .f32⟩
  | .hbm, ⟨34, _⟩ => ⟨S2x256x4x1, .f32⟩
  | .hbm, ⟨35, _⟩ => ⟨S2x256x4x1, .f32⟩
  | .hbm, ⟨36, _⟩ => ⟨S2x256x4x1, .f32⟩
  | .hbm, ⟨37, _⟩ => ⟨S2x256x4x128, .f32⟩
  | .hbm, ⟨38, _⟩ => ⟨S2x256x4x128, .f32⟩
  | .hbm, ⟨39, _⟩ => ⟨S1x1x1x128, .f32⟩
  | .hbm, ⟨40, _⟩ => ⟨S2x256x4x128, .f32⟩
  | .hbm, ⟨41, _⟩ => ⟨S2x256x4x128, .f32⟩
  | .hbm, ⟨42, _⟩ => ⟨S512x512, .f32⟩
  | .hbm, ⟨43, _⟩ => ⟨S2x256x512, .f32⟩
  | .hbm, ⟨44, _⟩ => ⟨S512x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Proof.FoxBits.Runs.lean ====
module

public import proofs.«01_k».proof.Proof.Gen.Kernel.Skeleton
public import proofs.«01_k».proof.Proof.FoxBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- The word of the table of key blocks that the body reads at grid coordinates `i`. -/
abbrev rd1 (i : grid0.Coords) (T1 : S36.Idx → Elt Bits .i32) := (View.readAt (Elt Bits) (tbM0_1).view (Rect.unit (s := S36) (k0_off1 i) S1.size (k0_off1_inb i)).toLoadRect T1 (Shape.Idx.first (numel1_S1.symm ▸ Nat.one_pos)))
/-- The word of the table of flags that the body reads at grid coordinates `i`. -/
abbrev rd2 (i : grid0.Coords) (T2 : S36.Idx → Elt Bits .i32) := (View.readAt (Elt Bits) (tbM0_2).view (Rect.unit (s := S36) (k0_off1 i) S1.size (k0_off1_inb i)).toLoadRect T2 (Shape.Idx.first (numel1_S1.symm ▸ Nat.one_pos)))

/-- One staging buffer of output window 3, through which its contents are stated (`View.read_writes_of_cover`). -/
abbrev VO0_3 : View sig .tc .vmem S1x128x1024 .f32 := (Memref.whole cc0_stg3_0 : Memref sig .tc .vmem S1x128x1024 .f32).view

set_option backward.proofsInPublic true in
set_option maxHeartbeats 8000000 in
/-- PATH A (points 0, 36, … 252: 8 of 288): what the body leaves — per stored output its pieces (last first), per scratch its
    contents — WITH the proof that, on whole staging memrefs, from the inputs at their blocks, the tables, the outputs
    (3: stored) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Bits) S1x128x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_fox_eq_skeleton]; unfold cc0_flash_fox_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path A's pieces for output 3 tile its block (2 stores of `S1x64x1024`: the kernel evaluates the tiling, `Piece.tiledL`). -/
theorem cover0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x128x1024.Idx) :
    ∃ pc ∈ (kernelRun0_A c i arg6 harg6 arg7 harg7 arg8 harg8 arg9 harg9 T0 T1 T2 x0 x1 x2 hc0 hc1 hc2 k0_h4).1, y ∈ pc.1.set :=
  View.cover_of_tiledL (kernelRun0_A c i arg6 harg6 arg7 harg7 arg8 harg8 arg9 harg9 T0 T1 T2 x0 x1 x2 hc0 hc1 hc2 k0_h4).1 S1x64x1024.size (by sl_kernel_rfl) y

/-- What path A leaves in output 3's staging buffer: its pieces read back over junk. -/
def out0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x128x1024.Idx → Elt Bits .f32) :=
  VO0_3.read (Elt Bits) (VO0_3.writes (Elt Bits) VO0_3.junk (kernelRun0_A c i arg6 harg6 arg7 harg7 arg8 harg8 arg9 harg9 T0 T1 T2 x0 x1 x2 hc0 hc1 hc2 k0_h4).1)

set_option backward.proofsInPublic true in
set_option maxHeartbeats 8000000 in
/-- PATH B (points 1, 3, … 280: 56 of 288): what the body leaves — per stored output its pieces (last first), per scratch its
    contents — WITH the proof that, on whole staging memrefs, from the inputs at their blocks, the tables, the outputs
    (3: idle) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (hc0 : (Scalar.cmpi .ne (Scalar.extui (Scalar.cmpi .eq (rd1 i T1) 0#32)) 0#32) = 1#1) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S1x128x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x128x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_fox_eq_skeleton]; unfold cc0_flash_fox_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

set_option backward.proofsInPublic true in
set_option maxHeartbeats 8000000 in
/-- PATH C (points 2, 5, … 287: 56 of 288): what the body leaves — per stored output its pieces (last first), per scratch its
    contents — WITH the proof that, on whole staging memrefs, from the inputs at their blocks, the tables, the outputs
    (3: stored) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Bits) S1x128x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun K => by
    unfold owns
    rw [cc0_flash_fox_eq_skeleton]; unfold cc0_flash_fox_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path C's pieces for output 3 tile its block (2 stores of `S1x64x1024`: the kernel evaluates the tiling, `Piece.tiledL`). -/
theorem cover0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x128x1024.Idx) :
    ∃ pc ∈ (kernelRun0_C c i arg6 harg6 arg7 harg7 arg8 harg8 arg9 harg9 T0 T1 T2 x0 x1 x2 xa0 xa1 xa2 hc0 hc1 hc2 k0_h4).1, y ∈ pc.1.set :=
  View.cover_of_tiledL (kernelRun0_C c i arg6 harg6 arg7 harg7 arg8 harg8 arg9 harg9 T0 T1 T2 x0 x1 x2 xa0 xa1 xa2 hc0 hc1 hc2 k0_h4).1 S1x64x1024.size (by sl_kernel_rfl) y

/-- What path C leaves in output 3's staging buffer: its pieces read back over junk. -/
def out0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x128x1024.Idx → Elt Bits .f32) :=
  VO0_3.read (Elt Bits) (VO0_3.writes (Elt Bits) VO0_3.junk (kernelRun0_C c i arg6 harg6 arg7 harg7 arg8 harg8 arg9 harg9 T0 T1 T2 x0 x1 x2 xa0 xa1 xa2 hc0 hc1 hc2 k0_h4).1)

set_option backward.proofsInPublic true in
set_option maxHeartbeats 8000000 in
/-- PATH D (points 4, 7, … 286: 168 of 288): what the body leaves — per stored output its pieces (last first), per scratch its
    contents — WITH the proof that, on whole staging memrefs, from the inputs at their blocks, the tables, the outputs
    (3: idle) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x128x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S1x128x1024.Idx → Elt Bits .f32)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x128x1024.Idx → Elt Bits .f32)) K => by
    unfold owns
    rw [cc0_flash_fox_eq_skeleton]; unfold cc0_flash_fox_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

end Cert.Kernel.Fox

end
-- ==== Proof.FoxBits.Ok0.lean ====
module

public import proofs.«01_k».proof.Proof.FoxBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S1x2x1024x128.size a ≤ S2x8x8192x128.size a := by decide +kernel
theorem ok_pfN_0_0 : (∀ i : grid0.Coords, ∃ h : (∀ a, (cc0_transform_0 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_0 k0_off1_inb numel1_S1 (pfN (⟨0, by omega⟩ : Fin 1)) i) h).WholeWords (EltTy.packing .bf16)) := fun i => ⟨ok_pfN_0_0_inb i, .inr (Affine.block_words_dvd (s := S2x8x8192x128) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1x2x1024x128.size a ≤ S2x8x8192x128.size a := by decide +kernel
theorem ok_pfN_0_1 : (∀ i : grid0.Coords, ∃ h : (∀ a, (cc0_transform_1 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_1 k0_off1_inb numel1_S1 (pfN (⟨0, by omega⟩ : Fin 1)) i) h).WholeWords (EltTy.packing .bf16)) := fun i => ⟨ok_pfN_0_1_inb i, .inr (Affine.block_words_dvd (s := S2x8x8192x128) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1x128x1024.size a ≤ S2x512x8192.size a := by decide +kernel
theorem ok_pfN_0_2 : (∀ i : grid0.Coords, ∃ h : (∀ a, (cc0_transform_2 k0_off1_inb numel1_S1 (pfN (⟨0, by omega⟩ : Fin 1)) i a + 1) * S1x128x1024.size a ≤ S2x512x8192.size a), EltTy.bits .bf16 = 32 ∨ (Rect.block (s := S2x512x8192) S1x128x1024.size (cc0_transform_2 k0_off1_inb numel1_S1 (pfN (⟨0, by omega⟩ : Fin 1)) i) h).WholeWords (EltTy.packing .bf16)) := fun i => ⟨ok_pfN_0_2_inb i, .inr (Affine.block_words_dvd (s := S2x512x8192) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1x128x1024.size a ≤ S2x512x8192.size a := by decide +kernel
theorem ok_pfN_0_3 : (∀ i : grid0.Coords, ∃ h : (∀ a, (cc0_transform_3 k0_off1_inb numel1_S1 (pfN (⟨0, by omega⟩ : Fin 1)) i a + 1) * S1x128x1024.size a ≤ S2x512x8192.size a), EltTy.bits .f32 = 32 ∨ (Rect.block (s := S2x512x8192) S1x128x1024.size (cc0_transform_3 k0_off1_inb numel1_S1 (pfN (⟨0, by omega⟩ : Fin 1)) i) h).WholeWords (EltTy.packing .f32)) := fun i => ⟨ok_pfN_0_3_inb i, .inl rfl⟩
theorem ok_pfN_0 : ok0 (F := Bits) (pfN (⟨0, by omega⟩ : Fin 1)) := ⟨ok_pfN_0_0, ok_pfN_0_1, ok_pfN_0_2, ok_pfN_0_3⟩

end Cert.Kernel.Fox

end
-- ==== Proof.FoxBits.Cfg.lean ====
module

public import proofs.«01_k».proof.Proof.FoxBits.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

/-- The side condition holds of the pinned tables at EVERY member (the grid they make one that runs, every block
    inside its array): decided member by member in a module of its own, matched here. -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 288 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1x2x1024x128 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1x2x1024x128 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1x128x1024 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S1x128x1024 .f32 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .eq (Scalar.andi (View.readAt (Elt Bits) (tbM0_2).view (Rect.unit (s := S36) (k0_off1 (crd ch t)) S1.size (k0_off1_inb (crd ch t))).toLoadRect (pinT_2 ch) (Shape.Idx.first (numel1_S1.symm ▸ Nat.one_pos))) 1#32) 0#32)) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

set_option backward.proofsInPublic true in
/-- Whether output 3 holds junk BEFORE each position `1 ‥ N` of member `ch`'s grid — nothing stored into it since
    its last write-back —: the classifier's table (written back at the point before, or idle there and junk
    before it) as a bitmask, bit `n` for position `n + 1`, which `frTab0_3_step` checks against the pipeline's
    own recursion point by point (a bit test is one kernel step; a list walk or the recursion, hundreds). -/
def frMask0_3 : Fin 1 → ℕ
  | ⟨0, _⟩ => 0xffffffffffffffffffffffffffffffffffffffffffffffffffffffffffffffffffffffff
  | ⟨_ + 1, h⟩ => absurd h (by omega)
/-- `(cfgA ch).fresh 3` TABULATED (TableIdle.lean `Cfg.fresh_tab`): true before the first point, then the table. -/
def frTab0_3 : ℕ → Bool
  | 0 => true
  | n + 1 => (frMask0_3 ch).testBit n

end Cert.Kernel.Fox

end
-- ==== Proof.FoxBits.Facts.lean ====
module

public import proofs.«01_k».proof.Proof.FoxBits.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Fox

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- The word of the table of key blocks that the body reads at point `t`. -/
abbrev kw (ch : Fin 1) (t : Fin (cfgA ch).N) := (View.readAt (Elt Bits) (tbM0_1).view (Rect.unit (s := S36) (k0_off1 (crd ch t)) S1.size (k0_off1_inb (crd ch t))).toLoadRect (pinT_1 ch) (Shape.Idx.first (numel1_S1.symm ▸ Nat.one_pos)))
/-- The word of the table of flags that the body reads at point `t`. -/
abbrev fw (ch : Fin 1) (t : Fin (cfgA ch).N) := (View.readAt (Elt Bits) (tbM0_2).view (Rect.unit (s := S36) (k0_off1 (crd ch t)) S1.size (k0_off1_inb (crd ch t))).toLoadRect (pinT_2 ch) (Shape.Idx.first (numel1_S1.symm ▸ Nat.one_pos)))
/-- What path A needs of the words the body reads. -/
abbrev Hy_A (ch : Fin 1) (t : Fin (cfgA ch).N) : Prop :=
  ((Scalar.cmpi .ne (Scalar.extui (Scalar.cmpi .eq (kw ch t) 0#32)) 0#32) = 1#1) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path B needs of the words the body reads. -/
abbrev Hy_B (ch : Fin 1) (t : Fin (cfgA ch).N) : Prop :=
  ((Scalar.cmpi .ne (Scalar.extui (Scalar.cmpi .eq (kw ch t) 0#32)) 0#32) = 1#1) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))
/-- What path C needs of the words the body reads. -/
abbrev Hy_C (ch : Fin 1) (t : Fin (cfgA ch).N) : Prop :=
  (¬((Scalar.cmpi .ne (Scalar.extui (Scalar.cmpi .eq (kw ch t) 0#32)) 0#32) = 1#1)) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path D needs of the words the body reads. -/
abbrev Hy_D (ch : Fin 1) (t : Fin (cfgA ch).N) : Prop :=
  (¬((Scalar.cmpi .ne (Scalar.extui (Scalar.cmpi .eq (kw ch t) 0#32)) 0#32) = 1#1)) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → Hy_A ch t)
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → Hy_B ch t)
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → Hy_C ch t)
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → Hy_D ch t)
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Kernel.Fox

end
-- ==== Proof.FoxIdeal.Pins.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev tbM0_2 : Memref sig .tc .smem S36 .i32 := Memref.whole main_c_1
abbrev scM0_0 : Memref sig .tc .vmem S2x1x1024 .f32 := Memref.whole cc0_scratch0
abbrev scM0_1 : Memref sig .tc .vmem S2x1x1024 .f32 := Memref.whole cc0_scratch1
abbrev scM0_2 : Memref sig .tc .vmem S2x64x1024 .f32 := Memref.whole cc0_scratch2

/-! ## The pinned words: the tables and the steering windows' arrays, closed forms of the schedule index `ch` -/

/- THE SCHEDULE INDEX the whole certificate is stated for: member `ch` of the family of 1 . Every definition below that depends on the pinned words takes it first. -/
variable (ch : Fin 1)

/-- Prefetched table 0 (`main_c`, [36]) at member `ch`: the family TRACED. -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Prefetched table 1 (`main_c_0`, [36]) at member `ch`: the family TRACED. -/
def pinT_1 (ch : Fin 1) : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

/-- Prefetched table 2 (`main_c_1`, [36]) at member `ch`: the family TRACED. -/
def pinT_2 (ch : Fin 1) : S36.Idx → BitVec 32 := fun x => (([3#32, 0#32, 3#32, 0#32, 0#32, 3#32, 0#32, 0#32, 0#32, 3#32, 0#32, 0#32, 0#32, 0#32, 3#32, 0#32, 0#32, 0#32, 0#32, 0#32, 3#32, 0#32, 0#32, 0#32, 0#32, 0#32, 0#32, 3#32, 0#32, 0#32, 0#32, 0#32, 0#32, 0#32, 0#32, 3#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨2, _⟩ => pinT_2 ch | ⟨_ + 3, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The program's three literal tables are the words above. -/
theorem lit0_eq (x : S36.Idx) : lit0 (S36.rowMajor x) = pinT_0 ch x := by
  revert x; revert ch; decide +kernel
theorem lit1_eq (x : S36.Idx) : lit1 (S36.rowMajor x) = pinT_1 ch x := by
  revert x; revert ch; decide +kernel
theorem lit2_eq (x : S36.Idx) : lit2 (S36.rowMajor x) = pinT_2 ch x := by
  revert x; revert ch; decide +kernel

end Cert.KernelIdeal.Fox

end
-- ==== Proof.FoxIdeal.Runs.lean ====
module

public import proofs.«01_k».proof.Proof.Gen.KernelIdeal.Skeleton
public import proofs.«01_k».proof.Proof.FoxIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- The word of the table of key blocks that the body reads at grid coordinates `i`. -/
abbrev rd1 (i : grid0.Coords) (T1 : S36.Idx → Elt Ideal .i32) := (View.readAt (Elt Ideal) (tbM0_1).view (Rect.unit (s := S36) (k0_off1 i) S1.size (k0_off1_inb i)).toLoadRect T1 (Shape.Idx.first (numel1_S1.symm ▸ Nat.one_pos)))
/-- The word of the table of flags that the body reads at grid coordinates `i`. -/
abbrev rd2 (i : grid0.Coords) (T2 : S36.Idx → Elt Ideal .i32) := (View.readAt (Elt Ideal) (tbM0_2).view (Rect.unit (s := S36) (k0_off1 i) S1.size (k0_off1_inb i)).toLoadRect T2 (Shape.Idx.first (numel1_S1.symm ▸ Nat.one_pos)))

/-- One staging buffer of output window 3, through which its contents are stated (`View.read_writes_of_cover`). -/
abbrev VO0_3 : View sig .tc .vmem S1x128x1024 .f32 := (Memref.whole cc0_stg3_0 : Memref sig .tc .vmem S1x128x1024 .f32).view

set_option backward.proofsInPublic true in
set_option maxHeartbeats 8000000 in
/-- PATH A (points 0, 36, … 252: 8 of 288): what the body leaves — per stored output its pieces (last first), per scratch its
    contents — WITH the proof that, on whole staging memrefs, from the inputs at their blocks, the tables, the outputs
    (3: stored) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Ideal) S1x128x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_fox_eq_skeleton]; unfold cc0_flash_fox_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path A's pieces for output 3 tile its block (2 stores of `S1x64x1024`: the kernel evaluates the tiling, `Piece.tiledL`). -/
theorem cover0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x128x1024.Idx) :
    ∃ pc ∈ (kernelRun0_A c i arg6 harg6 arg7 harg7 arg8 harg8 arg9 harg9 T0 T1 T2 x0 x1 x2 hc0 hc1 hc2 k0_h4).1, y ∈ pc.1.set :=
  View.cover_of_tiledL (kernelRun0_A c i arg6 harg6 arg7 harg7 arg8 harg8 arg9 harg9 T0 T1 T2 x0 x1 x2 hc0 hc1 hc2 k0_h4).1 S1x64x1024.size (by sl_kernel_rfl) y

/-- What path A leaves in output 3's staging buffer: its pieces read back over junk. -/
def out0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x128x1024.Idx → Elt Ideal .f32) :=
  VO0_3.read (Elt Ideal) (VO0_3.writes (Elt Ideal) VO0_3.junk (kernelRun0_A c i arg6 harg6 arg7 harg7 arg8 harg8 arg9 harg9 T0 T1 T2 x0 x1 x2 hc0 hc1 hc2 k0_h4).1)

set_option backward.proofsInPublic true in
set_option maxHeartbeats 8000000 in
/-- PATH B (points 1, 3, … 280: 56 of 288): what the body leaves — per stored output its pieces (last first), per scratch its
    contents — WITH the proof that, on whole staging memrefs, from the inputs at their blocks, the tables, the outputs
    (3: idle) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (hc0 : (Scalar.cmpi .ne (Scalar.extui (Scalar.cmpi .eq (rd1 i T1) 0#32)) 0#32) = 1#1) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S1x128x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x128x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_fox_eq_skeleton]; unfold cc0_flash_fox_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

set_option backward.proofsInPublic true in
set_option maxHeartbeats 8000000 in
/-- PATH C (points 2, 5, … 287: 56 of 288): what the body leaves — per stored output its pieces (last first), per scratch its
    contents — WITH the proof that, on whole staging memrefs, from the inputs at their blocks, the tables, the outputs
    (3: stored) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Ideal) S1x128x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun K => by
    unfold owns
    rw [cc0_flash_fox_eq_skeleton]; unfold cc0_flash_fox_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path C's pieces for output 3 tile its block (2 stores of `S1x64x1024`: the kernel evaluates the tiling, `Piece.tiledL`). -/
theorem cover0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x128x1024.Idx) :
    ∃ pc ∈ (kernelRun0_C c i arg6 harg6 arg7 harg7 arg8 harg8 arg9 harg9 T0 T1 T2 x0 x1 x2 xa0 xa1 xa2 hc0 hc1 hc2 k0_h4).1, y ∈ pc.1.set :=
  View.cover_of_tiledL (kernelRun0_C c i arg6 harg6 arg7 harg7 arg8 harg8 arg9 harg9 T0 T1 T2 x0 x1 x2 xa0 xa1 xa2 hc0 hc1 hc2 k0_h4).1 S1x64x1024.size (by sl_kernel_rfl) y

/-- What path C leaves in output 3's staging buffer: its pieces read back over junk. -/
def out0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x128x1024.Idx → Elt Ideal .f32) :=
  VO0_3.read (Elt Ideal) (VO0_3.writes (Elt Ideal) VO0_3.junk (kernelRun0_C c i arg6 harg6 arg7 harg7 arg8 harg8 arg9 harg9 T0 T1 T2 x0 x1 x2 xa0 xa1 xa2 hc0 hc1 hc2 k0_h4).1)

set_option backward.proofsInPublic true in
set_option maxHeartbeats 8000000 in
/-- PATH D (points 4, 7, … 286: 168 of 288): what the body leaves — per stored output its pieces (last first), per scratch its
    contents — WITH the proof that, on whole staging memrefs, from the inputs at their blocks, the tables, the outputs
    (3: idle) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x128x1024 .bf16) (harg8 : arg8.IsWhole) (arg9 : Memref sig .tc .vmem S1x128x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x128x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S1x128x1024.Idx → Elt Ideal .f32)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_fox i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x128x1024.Idx → Elt Ideal .f32)) K => by
    unfold owns
    rw [cc0_flash_fox_eq_skeleton]; unfold cc0_flash_fox_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

end Cert.KernelIdeal.Fox

end
-- ==== Proof.FoxIdeal.Ok0.lean ====
module

public import proofs.«01_k».proof.Proof.FoxIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S1x2x1024x128.size a ≤ S2x8x8192x128.size a := by decide +kernel
theorem ok_pfN_0_0 : (∀ i : grid0.Coords, ∃ h : (∀ a, (cc0_transform_0 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_0 k0_off1_inb numel1_S1 (pfN (⟨0, by omega⟩ : Fin 1)) i) h).WholeWords (EltTy.packing .bf16)) := fun i => ⟨ok_pfN_0_0_inb i, .inr (Affine.block_words_dvd (s := S2x8x8192x128) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1x2x1024x128.size a ≤ S2x8x8192x128.size a := by decide +kernel
theorem ok_pfN_0_1 : (∀ i : grid0.Coords, ∃ h : (∀ a, (cc0_transform_1 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_1 k0_off1_inb numel1_S1 (pfN (⟨0, by omega⟩ : Fin 1)) i) h).WholeWords (EltTy.packing .bf16)) := fun i => ⟨ok_pfN_0_1_inb i, .inr (Affine.block_words_dvd (s := S2x8x8192x128) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1x128x1024.size a ≤ S2x512x8192.size a := by decide +kernel
theorem ok_pfN_0_2 : (∀ i : grid0.Coords, ∃ h : (∀ a, (cc0_transform_2 k0_off1_inb numel1_S1 (pfN (⟨0, by omega⟩ : Fin 1)) i a + 1) * S1x128x1024.size a ≤ S2x512x8192.size a), EltTy.bits .bf16 = 32 ∨ (Rect.block (s := S2x512x8192) S1x128x1024.size (cc0_transform_2 k0_off1_inb numel1_S1 (pfN (⟨0, by omega⟩ : Fin 1)) i) h).WholeWords (EltTy.packing .bf16)) := fun i => ⟨ok_pfN_0_2_inb i, .inr (Affine.block_words_dvd (s := S2x512x8192) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1x128x1024.size a ≤ S2x512x8192.size a := by decide +kernel
theorem ok_pfN_0_3 : (∀ i : grid0.Coords, ∃ h : (∀ a, (cc0_transform_3 k0_off1_inb numel1_S1 (pfN (⟨0, by omega⟩ : Fin 1)) i a + 1) * S1x128x1024.size a ≤ S2x512x8192.size a), EltTy.bits .f32 = 32 ∨ (Rect.block (s := S2x512x8192) S1x128x1024.size (cc0_transform_3 k0_off1_inb numel1_S1 (pfN (⟨0, by omega⟩ : Fin 1)) i) h).WholeWords (EltTy.packing .f32)) := fun i => ⟨ok_pfN_0_3_inb i, .inl rfl⟩
theorem ok_pfN_0 : ok0 (F := Ideal) (pfN (⟨0, by omega⟩ : Fin 1)) := ⟨ok_pfN_0_0, ok_pfN_0_1, ok_pfN_0_2, ok_pfN_0_3⟩

end Cert.KernelIdeal.Fox

end
-- ==== Proof.FoxIdeal.Cfg.lean ====
module

public import proofs.«01_k».proof.Proof.FoxIdeal.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

/-- The side condition holds of the pinned tables at EVERY member (the grid they make one that runs, every block
    inside its array): decided member by member in a module of its own, matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 288 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1x2x1024x128 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1x2x1024x128 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1x128x1024 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S1x128x1024 .f32 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .eq (Scalar.andi (View.readAt (Elt Ideal) (tbM0_2).view (Rect.unit (s := S36) (k0_off1 (crd ch t)) S1.size (k0_off1_inb (crd ch t))).toLoadRect (pinT_2 ch) (Shape.Idx.first (numel1_S1.symm ▸ Nat.one_pos))) 1#32) 0#32)) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

set_option backward.proofsInPublic true in
/-- Whether output 3 holds junk BEFORE each position `1 ‥ N` of member `ch`'s grid — nothing stored into it since
    its last write-back —: the classifier's table (written back at the point before, or idle there and junk
    before it) as a bitmask, bit `n` for position `n + 1`, which `frTab0_3_step` checks against the pipeline's
    own recursion point by point (a bit test is one kernel step; a list walk or the recursion, hundreds). -/
def frMask0_3 : Fin 1 → ℕ
  | ⟨0, _⟩ => 0xffffffffffffffffffffffffffffffffffffffffffffffffffffffffffffffffffffffff
  | ⟨_ + 1, h⟩ => absurd h (by omega)
/-- `(cfgA ch).fresh 3` TABULATED (TableIdle.lean `Cfg.fresh_tab`): true before the first point, then the table. -/
def frTab0_3 : ℕ → Bool
  | 0 => true
  | n + 1 => (frMask0_3 ch).testBit n

end Cert.KernelIdeal.Fox

end
-- ==== Proof.FoxIdeal.Facts.lean ====
module

public import proofs.«01_k».proof.Proof.FoxIdeal.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- The word of the table of key blocks that the body reads at point `t`. -/
abbrev kw (ch : Fin 1) (t : Fin (cfgA ch).N) := (View.readAt (Elt Ideal) (tbM0_1).view (Rect.unit (s := S36) (k0_off1 (crd ch t)) S1.size (k0_off1_inb (crd ch t))).toLoadRect (pinT_1 ch) (Shape.Idx.first (numel1_S1.symm ▸ Nat.one_pos)))
/-- The word of the table of flags that the body reads at point `t`. -/
abbrev fw (ch : Fin 1) (t : Fin (cfgA ch).N) := (View.readAt (Elt Ideal) (tbM0_2).view (Rect.unit (s := S36) (k0_off1 (crd ch t)) S1.size (k0_off1_inb (crd ch t))).toLoadRect (pinT_2 ch) (Shape.Idx.first (numel1_S1.symm ▸ Nat.one_pos)))
/-- What path A needs of the words the body reads. -/
abbrev Hy_A (ch : Fin 1) (t : Fin (cfgA ch).N) : Prop :=
  ((Scalar.cmpi .ne (Scalar.extui (Scalar.cmpi .eq (kw ch t) 0#32)) 0#32) = 1#1) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path B needs of the words the body reads. -/
abbrev Hy_B (ch : Fin 1) (t : Fin (cfgA ch).N) : Prop :=
  ((Scalar.cmpi .ne (Scalar.extui (Scalar.cmpi .eq (kw ch t) 0#32)) 0#32) = 1#1) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))
/-- What path C needs of the words the body reads. -/
abbrev Hy_C (ch : Fin 1) (t : Fin (cfgA ch).N) : Prop :=
  (¬((Scalar.cmpi .ne (Scalar.extui (Scalar.cmpi .eq (kw ch t) 0#32)) 0#32) = 1#1)) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path D needs of the words the body reads. -/
abbrev Hy_D (ch : Fin 1) (t : Fin (cfgA ch).N) : Prop :=
  (¬((Scalar.cmpi .ne (Scalar.extui (Scalar.cmpi .eq (kw ch t) 0#32)) 0#32) = 1#1)) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → Hy_A ch t)
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → Hy_B ch t)
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → Hy_C ch t)
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → Hy_D ch t)
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.KernelIdeal.Fox

end
-- ==== Proof.FoxIdeal.Facts0.lean ====
module

public import proofs.«01_k».proof.Proof.FoxIdeal.Facts

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 36 → FactsAt (⟨0, by omega⟩ : Fin 1) t := by decide +kernel
theorem allFacts_0_1 : ∀ t : Fin (cfgA (⟨0, by omega⟩ : Fin 1)).N, 36 ≤ t.val → t.val < 72 → FactsAt (⟨0, by omega⟩ : Fin 1) t := by decide +kernel
theorem allFacts_0_2 : ∀ t : Fin (cfgA (⟨0, by omega⟩ : Fin 1)).N, 72 ≤ t.val → t.val < 108 → FactsAt (⟨0, by omega⟩ : Fin 1) t := by decide +kernel
theorem allFacts_0_3 : ∀ t : Fin (cfgA (⟨0, by omega⟩ : Fin 1)).N, 108 ≤ t.val → t.val < 144 → FactsAt (⟨0, by omega⟩ : Fin 1) t := by decide +kernel
theorem allFacts_0_4 : ∀ t : Fin (cfgA (⟨0, by omega⟩ : Fin 1)).N, 144 ≤ t.val → t.val < 180 → FactsAt (⟨0, by omega⟩ : Fin 1) t := by decide +kernel
theorem allFacts_0_5 : ∀ t : Fin (cfgA (⟨0, by omega⟩ : Fin 1)).N, 180 ≤ t.val → t.val < 216 → FactsAt (⟨0, by omega⟩ : Fin 1) t := by decide +kernel
theorem allFacts_0_6 : ∀ t : Fin (cfgA (⟨0, by omega⟩ : Fin 1)).N, 216 ≤ t.val → t.val < 252 → FactsAt (⟨0, by omega⟩ : Fin 1) t := by decide +kernel
theorem allFacts_0_7 : ∀ t : Fin (cfgA (⟨0, by omega⟩ : Fin 1)).N, 252 ≤ t.val → t.val < 288 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 36 with h1 | h1; · exact allFacts_0_0 t h0 h1
  rcases Nat.lt_or_ge t.val 72 with h2 | h2; · exact allFacts_0_1 t h1 h2
  rcases Nat.lt_or_ge t.val 108 with h3 | h3; · exact allFacts_0_2 t h2 h3
  rcases Nat.lt_or_ge t.val 144 with h4 | h4; · exact allFacts_0_3 t h3 h4
  rcases Nat.lt_or_ge t.val 180 with h5 | h5; · exact allFacts_0_4 t h4 h5
  rcases Nat.lt_or_ge t.val 216 with h6 | h6; · exact allFacts_0_5 t h5 h6
  rcases Nat.lt_or_ge t.val 252 with h7 | h7; · exact allFacts_0_6 t h6 h7
  exact allFacts_0_7 t h7 t.isLt

end Cert.KernelIdeal.Fox

end
-- ==== Proof.FoxIdeal.Flash.lean ====
module

public import proofs.«01_k».proof.Proof.FoxIdeal.Runs
public import proofs.«01_k».proof.Proof.FoxIdeal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- At a point of path A, the path's hypotheses hold of the words the body reads there (the pinned tables read,
    a pinned window's word AS the word `pinBlk ch t (r.idx x)`; the checks among them cited from `ChecksAt`). -/
theorem hypsR0_A : ∀ (ch : Fin 1) (t : Fin (cfgA ch).N), P0_0 ch t → ¬P0_1 ch t → Hy_A ch t := fun ch t => (allFacts ch t).2.2.2.2.1

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false ∧ sfresh0_2 ch (t.val + 1) = false := by
  intro ch t; rw [freshF0_3 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hypsR0_B : ∀ (ch : Fin 1) (t : Fin (cfgA ch).N), P0_0 ch t → P0_1 ch t → Hy_B ch t := fun ch t => (allFacts ch t).2.2.2.2.2.2.1

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hypsR0_C : ∀ (ch : Fin 1) (t : Fin (cfgA ch).N), ¬P0_0 ch t → ¬P0_1 ch t → Hy_C ch t := fun ch t => (allFacts ch t).2.2.2.2.2.2.2.2.1

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.1) ch t

/-- At a point of path D, the path's hypotheses hold of the words the body reads there (the pinned tables read,
    a pinned window's word AS the word `pinBlk ch t (r.idx x)`; the checks among them cited from `ChecksAt`). -/
theorem hypsR0_D : ∀ (ch : Fin 1) (t : Fin (cfgA ch).N), ¬P0_0 ch t → P0_1 ch t → Hy_D ch t := fun ch t => (allFacts ch t).2.2.2.2.2.2.2.2.2.2.1

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.2.2) ch t

/-! ## What the outputs and scratches hold after each point -/

/-- The type of what the body's buffers hold: the output block and the three scratches. -/
abbrev St (c : Dev nD) : Type := (S1x128x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
/-- What path A leaves in the buffers. -/
abbrev st0_A (c : Dev nD) (t : Fin (cfgA ch).N) (prev : St c) (q0 : P0_0 ch t) (q1 : ¬P0_1 ch t) : St c :=
  (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.2.1)
/-- What path B leaves in the buffers. -/
abbrev st0_B (c : Dev nD) (t : Fin (cfgA ch).N) (prev : St c) (q0 : P0_0 ch t) (q1 : P0_1 ch t) : St c :=
  ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.2.1)
/-- What path C leaves in the buffers. -/
abbrev st0_C (c : Dev nD) (t : Fin (cfgA ch).N) (prev : St c) (q0 : ¬P0_0 ch t) (q1 : ¬P0_1 ch t) : St c :=
  (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1).2.2.2.1)
/-- What path D leaves in the buffers. -/
abbrev st0_D (c : Dev nD) (t : Fin (cfgA ch).N) (prev : St c) (q0 : ¬P0_0 ch t) (q1 : P0_1 ch t) : St c :=
  ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1 (hypsR0_D ch t q0 q1).2.2.2.1).2.2.1)

/-- ONE STEP of the trajectory: what the outputs' current buffers and the scratches hold after the body at point `t`
    (output 3, scratch 0, scratch 1, scratch 2), from what they held before (`prev`): the path the decisions select at `t`, its
    run's contents; an output the path leaves idle keeps what it held (junk — `default`, named by nothing — where fresh). -/
def step0 (c : Dev nD) (t : Fin (cfgA ch).N) (prev : St c) : St c :=
  if q0 : P0_0 ch t then
    if q1 : P0_1 ch t then
      st0_B ch m ρ c t prev q0 q1
    else
      st0_A ch m ρ c t prev q0 q1
  else
    if q1 : P0_1 ch t then
      st0_D ch m ρ c t prev q0 q1
    else
      st0_C ch m ρ c t prev q0 q1

/-- THE TRAJECTORY: after position `n`. -/
def traj0 (c : Dev nD) : (n : ℕ) → n < (cfgA ch).N → St c
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : St c :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : St c) (q0 : P0_0 ch t) (q1 : ¬P0_1 ch t) :
    step0 ch m ρ c t prev = st0_A ch m ρ c t prev q0 q1 := by
  unfold step0; simp only [dif_pos q0, dif_neg q1]

/-- `step0` at a point of path B. -/
theorem step0_B (c : Dev nD) (t : Fin (cfgA ch).N) (prev : St c) (q0 : P0_0 ch t) (q1 : P0_1 ch t) :
    step0 ch m ρ c t prev = st0_B ch m ρ c t prev q0 q1 := by
  unfold step0; simp only [dif_pos q0, dif_pos q1]

/-- `step0` at a point of path C. -/
theorem step0_C (c : Dev nD) (t : Fin (cfgA ch).N) (prev : St c) (q0 : ¬P0_0 ch t) (q1 : ¬P0_1 ch t) :
    step0 ch m ρ c t prev = st0_C ch m ρ c t prev q0 q1 := by
  unfold step0; simp only [dif_neg q0, dif_neg q1]

/-- `step0` at a point of path D. -/
theorem step0_D (c : Dev nD) (t : Fin (cfgA ch).N) (prev : St c) (q0 : ¬P0_0 ch t) (q1 : P0_1 ch t) :
    step0 ch m ρ c t prev = st0_D ch m ρ c t prev q0 q1 := by
  unfold step0; simp only [dif_neg q0, dif_pos q1]

/-! ## The pipeline's proof data -/

/-- What the tracked buffers held before position `t` of `Fin (N+1)` (the invariant's index). -/
def prev0T (c : Dev nD) (t : Fin ((cfgA ch).N + 1)) : St c :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [st0_B, hf, Bool.false_eq_true, ↓reduceIte]
      unfold prev0; rw [dif_neg ht]
    · obtain ⟨i3, -, -, -, -, -⟩ := sched0_A ch t q0 q1
      rw [i3] at hi; exact absurd hi (by decide)
  · by_cases q1 : P0_1 ch t
    · rw [step0_D ch m ρ c t _ q0 q1]
      simp only [st0_D, hf, Bool.false_eq_true, ↓reduceIte]
      unfold prev0; rw [dif_neg ht]
    · obtain ⟨i3, -, -, -, -, -, -, -, -⟩ := sched0_C ch t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_flash_fox (crd ch t) (Memref.whole main_c) (Memref.isWhole_whole _) (Memref.whole main_c_0) (Memref.isWhole_whole _) (Memref.whole main_c_1) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1, sf2, sfn2⟩ := sched0_B ch t q0 q1
      have F0 := hypsR0_B ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, st0_B, Fin.val_castSucc, Fin.val_succ]
      iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) hc0 hc1 hc2 k0_h4).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexact H3
      isplitl [HS0]; · iexact HS0
      isplitl [HS1]; · iexact HS1
      isplitl [HS2]; · iexact HS2
      iintro ⟨H0, H1, H2, HT0, HT1, HT2, H3, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1, sfn2⟩ := sched0_A ch t q0 q1
      have F0 := hypsR0_A ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, st0_A, Fin.val_castSucc, Fin.val_succ]
      iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) hc0 hc1 hc2 k0_h4).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      isplitl [HS2]; · iexact HS2
      iintro ⟨H0, H1, H2, HT0, HT1, HT2, ⟨%e3, H3⟩, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _ _ _)
  · by_cases q1 : P0_1 ch t
    · obtain ⟨i3, f3, fr3, sf0, sfn0, sf1, sfn1, sf2, sfn2⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, st0_D, Fin.val_castSucc, Fin.val_succ]
      simp only [exists_held sf0, exists_held sf1, exists_held sf2]
      iintro ⟨⟨HS0, HS1, HS2, HT0, HT1, HT2⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) _ _ _ hc0 hc1 hc2 k0_h4).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexact H3
      isplitl [HS0]; · iexact HS0
      isplitl [HS1]; · iexact HS1
      isplitl [HS2]; · iexact HS2
      iintro ⟨H0, H1, H2, HT0, HT1, HT2, H3, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C ch t q0 q1
      have F0 := hypsR0_C ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, st0_C, Fin.val_castSucc, Fin.val_succ]
      simp only [exists_held sf0, exists_held sf1, exists_held sf2]
      iintro ⟨⟨HS0, HS1, HS2, HT0, HT1, HT2⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) _ _ _ hc0 hc1 hc2 k0_h4).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      isplitl [HS2]; · iexact HS2
      iintro ⟨H0, H1, H2, HT0, HT1, HT2, ⟨%e3, H3⟩, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _ _ _)

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -, -⟩
  isplitr; · iempintro
  isplitl [HS0]
  · iexists a0; iexact HS0
  isplitl [HS1]
  · iexists a1; iexact HS1
  iexists a2; iexact HS2

/-! ## The launch: the three constant tables are written by host operations before the region -/

/-- What the region finds in the buffers of core `c`: the launch memory after the three host constants. -/
abbrev V (c : Dev nD) (b : Ref sig .tc) : Buf (Elt Ideal) ((c : Thread nD τ).loc b) :=
  StableHlo.after (hostOps0 (F := Ideal)) (fun b => m (c, b)) b

/-- The host constants are the tables the certificate is written at. -/
theorem V_pre (c : Dev nD) (j : Fin 3) : V m c (pre0.ref j) = (adm ch).1 j := by
  fin_cases j
  · change StableHlo.after (hostOps0 (F := Ideal)) (fun b => m (c, b)) (Proc.devRef .tc main_c) = pinT_0 ch
    after_results
    funext x; exact lit0_eq ch x
  · change StableHlo.after (hostOps0 (F := Ideal)) (fun b => m (c, b)) (Proc.devRef .tc main_c_0) = pinT_1 ch
    after_results
    funext x; exact lit1_eq ch x
  · change StableHlo.after (hostOps0 (F := Ideal)) (fun b => m (c, b)) (Proc.devRef .tc main_c_1) = pinT_2 ch
    after_results
    funext x; exact lit2_eq ch x

/-- The windows' arrays are untouched by the host constants. -/
theorem V_arr (c : Dev nD) (w : Fin 4) : V m c (Pipeline.arrRef spec0 w) = m ((c : Thread nD τ).loc (Pipeline.arrRef spec0 w)) := by
  fin_cases w
  · change StableHlo.after (hostOps0 (F := Ideal)) (fun b => m (c, b)) (Proc.devRef .tc main_arg0) = _
    after_results
  · change StableHlo.after (hostOps0 (F := Ideal)) (fun b => m (c, b)) (Proc.devRef .tc main_arg1) = _
    after_results
  · change StableHlo.after (hostOps0 (F := Ideal)) (fun b => m (c, b)) (Proc.devRef .tc main_arg2) = _
    after_results
  · change StableHlo.after (hostOps0 (F := Ideal)) (fun b => m (c, b)) (Proc.devRef .tc main_v0) = _
    after_results

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

set_option backward.isDefEq.respectTransparency.types false in
set_option maxHeartbeats 4000000 in
/-- At the compiled mesh, from any memory with zero counters: every weakly fair execution of @main on the TensorCores
    terminates, and every final state has each array at the computed contents, and every semaphore counter at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := Pipeline.hmainP_prefix pcfgs 0 defs₀ Variants.none m main hostOps0 hostOps0_sub ⟨rfl, rfl, rfl⟩ main_chain)
    (hsplit := fun c => Pipeline.arrays_split (pcs ch) (dats ch m ρ) 0 (launch0 (F := Ideal)).win.arr_inj c (launch0 (F := Ideal)).arr_whole
      (share_eq ch m ρ c) _ _ (V_arr m c))
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: from any launch memory every weakly fair execution terminates, nothing faults, every argument array ends
    unchanged and every semaphore counter of the machine reads zero at every final state. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (0 : Fin 4)).trans ((dats 0 m ρ 0 c).arrAt_in (0 : Fin 4) rfl _),
    ((h.1 c).1 (1 : Fin 4)).trans ((dats 0 m ρ 0 c).arrAt_in (1 : Fin 4) rfl _),
    ((h.1 c).1 (2 : Fin 4)).trans ((dats 0 m ρ 0 c).arrAt_in (2 : Fin 4) rfl _)⟩, h.2⟩) (run_main_quiescent 0 m ρ)

end Cert.KernelIdeal.Fox

end
-- ==== Proof.Online.lean ====
module

public import Mathlib.Data.EReal.Inv
public import Mathlib.Analysis.SpecialFunctions.Pow.Real
public import Idealize.ShloMosaic.PureOps.Ideal

/-!
# The running softmax, over the extended reals

A row of scores `σ 0, σ 1, …` is met tile by tile. A kernel carries the greatest score so far (`mx`), the sum of the
powers of two of the scores relative to it (`ls`) and the same sum weighted by values (`ac`). When a further tile is met the
two sums are first multiplied by the power of two by which the greatest score went up. Here: that step is right at EVERY
extended real (scores at `±∞` too), and scores at `-∞` add nothing.
-/

@[expose] public section

noncomputable section

namespace Cert.Online

open Idealize.ShloMosaic
open scoped BigOperators

theorem e2_bot : Ideal.exp2 ⊥ = 0 := rfl
theorem e2_coe (r : ℝ) : Ideal.exp2 (r : EReal) = ((Real.rpow 2 r : ℝ) : EReal) := rfl

/-- Raising the reference point from `m` to `m'` multiplies the power by the same factor for every score `s` below `m`. -/
theorem e2_sub_mul (s m m' : EReal) (h : s ≤ m) (h' : m ≤ m') :
    Ideal.exp2 (s - m') = Ideal.exp2 (m - m') * Ideal.exp2 (s - m) := by
  induction s using EReal.rec with
  | bot => rw [EReal.bot_sub, EReal.bot_sub, e2_bot, mul_zero]
  | top =>
    obtain rfl : m = ⊤ := top_le_iff.mp h
    obtain rfl : m' = ⊤ := top_le_iff.mp h'
    rw [EReal.sub_top, e2_bot, mul_zero]
  | coe s =>
    induction m' using EReal.rec with
    | bot =>
      have : m = ⊥ := le_bot_iff.mp h'
      subst this
      exact absurd (le_bot_iff.mp h) (EReal.coe_ne_bot s)
    | top => rw [EReal.sub_top, EReal.sub_top, e2_bot, zero_mul]
    | coe m' =>
      induction m using EReal.rec with
      | bot => exact absurd (le_bot_iff.mp h) (EReal.coe_ne_bot s)
      | top => exact absurd (top_le_iff.mp h') (EReal.coe_ne_top m')
      | coe m =>
        rw [← EReal.coe_sub, ← EReal.coe_sub, ← EReal.coe_sub, e2_coe, e2_coe, e2_coe, ← EReal.coe_mul]
        congr 1
        change (2 : ℝ) ^ (s - m') = (2 : ℝ) ^ (m - m') * (2 : ℝ) ^ (s - m)
        rw [← Real.rpow_add (by norm_num)]
        congr 1
        ring

/-- The factor is a real number that is not negative. -/
theorem e2_factor (m m' : EReal) (h : m ≤ m') : 0 ≤ Ideal.exp2 (m - m') ∧ Ideal.exp2 (m - m') ≠ ⊤ := by
  induction m using EReal.rec with
  | bot => rw [EReal.bot_sub, e2_bot]; exact ⟨le_rfl, EReal.zero_ne_top⟩
  | top =>
    obtain rfl : m' = ⊤ := top_le_iff.mp h
    rw [EReal.sub_top, e2_bot]; exact ⟨le_rfl, EReal.zero_ne_top⟩
  | coe m =>
    induction m' using EReal.rec with
    | bot => exact absurd (le_bot_iff.mp h) (EReal.coe_ne_bot m)
    | top => rw [EReal.sub_top, e2_bot]; exact ⟨le_rfl, EReal.zero_ne_top⟩
    | coe m' =>
      rw [← EReal.coe_sub, e2_coe]
      exact ⟨EReal.coe_nonneg.mpr (Real.rpow_nonneg (by norm_num) _), EReal.coe_ne_top _⟩

/-- A real factor that is not negative goes into a sum of any extended reals. -/
theorem mul_sum {ι : Type*} (a : EReal) (ha : 0 ≤ a) (ha' : a ≠ ⊤) (S : Finset ι) (f : ι → EReal) :
    a * ∑ k ∈ S, f k = ∑ k ∈ S, a * f k := by
  classical
  induction S using Finset.induction_on with
  | empty => simp
  | insert k S hk ih =>
    rw [Finset.sum_insert hk, Finset.sum_insert hk, EReal.left_distrib_of_nonneg_of_ne_top ha ha', ih]

/-- The greatest of the first `n` scores. -/
def mx (σ : ℕ → EReal) (n : ℕ) : EReal := (Finset.range n).sup σ
/-- The sum of the first `n` powers. -/
def ls (σ : ℕ → EReal) (n : ℕ) : EReal := ∑ k ∈ Finset.range n, Ideal.exp2 (σ k - mx σ n)
/-- The sum of the first `n` values, each times its power. -/
def ac (σ v : ℕ → EReal) (n : ℕ) : EReal := ∑ k ∈ Finset.range n, v k * Ideal.exp2 (σ k - mx σ n)

theorem mx_zero (σ : ℕ → EReal) : mx σ 0 = ⊥ := rfl
theorem ls_zero (σ : ℕ → EReal) : ls σ 0 = 0 := rfl
theorem ac_zero (σ v : ℕ → EReal) : ac σ v 0 = 0 := rfl

theorem le_mx (σ : ℕ → EReal) {n k : ℕ} (h : k < n) : σ k ≤ mx σ n := Finset.le_sup (f := σ) (Finset.mem_range.mpr h)

/-- A fold of the maximum over a tile is the supremum over it. -/
theorem fold_max {T : ℕ} (f : Fin T → EReal) : Finset.univ.fold max ⊥ f = Finset.univ.sup f := rfl

/-- The greatest score after a further tile. -/
theorem mx_step (σ : ℕ → EReal) (n T : ℕ) :
    max (mx σ n) (Finset.univ.fold max ⊥ fun r : Fin T => σ (n + r)) = mx σ (n + T) := by
  rw [fold_max]
  refine le_antisymm (max_le ?_ ?_) ?_
  · exact Finset.sup_le fun k hk => le_mx σ ((Finset.mem_range.mp hk).trans_le (Nat.le_add_right _ _))
  · exact Finset.sup_le fun r _ => le_mx σ (by have := r.isLt; omega)
  · refine Finset.sup_le fun k hk => ?_
    have hk := Finset.mem_range.mp hk
    by_cases h : k < n
    · exact le_max_of_le_left (le_mx σ h)
    · refine le_max_of_le_right ?_
      have := Finset.le_sup (f := fun r : Fin T => σ (n + r)) (Finset.mem_univ (⟨k - n, by omega⟩ : Fin T))
      simpa [Nat.add_sub_cancel' (Nat.le_of_not_lt h)] using this

theorem mx_mono (σ : ℕ → EReal) (n T : ℕ) : mx σ n ≤ mx σ (n + T) := by
  rw [← mx_step]; exact le_max_left _ _

/-- The sum of the powers after a further tile. -/
theorem ls_step (σ : ℕ → EReal) (n T : ℕ) :
    Ideal.exp2 (mx σ n - mx σ (n + T)) * ls σ n + ∑ r : Fin T, Ideal.exp2 (σ (n + r) - mx σ (n + T)) = ls σ (n + T) := by
  obtain ⟨h0, h1⟩ := e2_factor _ _ (mx_mono σ n T)
  unfold ls
  rw [mul_sum _ h0 h1, Finset.sum_range_add, Finset.sum_range (n := T)]
  congr 1
  exact Finset.sum_congr rfl fun k hk => (e2_sub_mul _ _ _ (le_mx σ (Finset.mem_range.mp hk)) (mx_mono σ n T)).symm

/-- The weighted sum after a further tile. -/
theorem ac_step (σ v : ℕ → EReal) (n T : ℕ) :
    Ideal.exp2 (mx σ n - mx σ (n + T)) * ac σ v n + ∑ r : Fin T, v (n + r) * Ideal.exp2 (σ (n + r) - mx σ (n + T))
      = ac σ v (n + T) := by
  obtain ⟨h0, h1⟩ := e2_factor _ _ (mx_mono σ n T)
  unfold ac
  rw [mul_sum _ h0 h1, Finset.sum_range_add, Finset.sum_range (n := T)]
  congr 1
  refine Finset.sum_congr rfl fun k hk => ?_
  rw [e2_sub_mul _ _ _ (le_mx σ (Finset.mem_range.mp hk)) (mx_mono σ n T), mul_left_comm]

/-- Scores at `-∞` from `n` on change nothing. -/
theorem tail_bot (σ v : ℕ → EReal) (n N : ℕ) (hn : n ≤ N) (h : ∀ k, n ≤ k → σ k = ⊥) :
    mx σ N = mx σ n ∧ ls σ N = ls σ n ∧ ac σ v N = ac σ v n := by
  obtain ⟨T, rfl⟩ := Nat.exists_eq_add_of_le hn
  have hm : mx σ (n + T) = mx σ n := by
    rw [← mx_step, fold_max]
    refine max_eq_left (Finset.sup_le fun r _ => ?_)
    rw [h _ (Nat.le_add_right _ _)]; exact bot_le
  refine ⟨hm, ?_, ?_⟩
  · unfold ls
    rw [Finset.sum_range_add, hm]
    refine (congrArg _ (Finset.sum_eq_zero fun k _ => ?_)).trans (add_zero _)
    rw [h _ (Nat.le_add_right _ _), EReal.bot_sub, e2_bot]
  · unfold ac
    rw [Finset.sum_range_add, hm]
    refine (congrArg _ (Finset.sum_eq_zero fun k _ => ?_)).trans (add_zero _)
    rw [h _ (Nat.le_add_right _ _), EReal.bot_sub, e2_bot, mul_zero]

/-! ## The natural exponential of scores in natural units -/

/-- The logarithm of two, as an extended real. -/
def ln2 : EReal := ((Real.log 2 : ℝ) : EReal)

theorem ln2_pos : 0 < ln2 := EReal.coe_pos.mpr (Real.log_pos (by norm_num))

theorem ln2_nonneg : 0 ≤ ln2 := ln2_pos.le

theorem bot_mul_ln2 : ⊥ * ln2 = ⊥ := EReal.bot_mul_of_pos ln2_pos
theorem top_mul_ln2 : ⊤ * ln2 = ⊤ := EReal.top_mul_of_pos ln2_pos

theorem exp_mul_ln2 (x : EReal) : Ideal.exp (x * ln2) = Ideal.exp2 x := by
  induction x using EReal.rec with
  | bot => rw [bot_mul_ln2]; rfl
  | top => rw [top_mul_ln2]; rfl
  | coe x =>
    unfold ln2
    rw [← EReal.coe_mul]
    change ((Real.exp (x * Real.log 2) : ℝ) : EReal) = (((2 : ℝ) ^ x : ℝ) : EReal)
    rw [Real.rpow_def_of_pos (by norm_num), mul_comm]

theorem sub_mul_ln2 (s m : EReal) : s * ln2 - m * ln2 = (s - m) * ln2 := by
  induction s using EReal.rec with
  | bot => rw [bot_mul_ln2, EReal.bot_sub, EReal.bot_sub, bot_mul_ln2]
  | top =>
    rw [top_mul_ln2]
    induction m using EReal.rec with
    | bot => rw [bot_mul_ln2]; rw [EReal.top_sub_bot, top_mul_ln2]
    | top => rw [top_mul_ln2]; rw [EReal.sub_top, bot_mul_ln2]
    | coe m => unfold ln2; rw [← EReal.coe_mul, EReal.top_sub_coe, EReal.top_sub_coe]; exact top_mul_ln2.symm
  | coe s =>
    induction m using EReal.rec with
    | bot => rw [bot_mul_ln2, EReal.coe_sub_bot, top_mul_ln2]; unfold ln2; rw [← EReal.coe_mul, EReal.coe_sub_bot]
    | top => rw [top_mul_ln2, EReal.sub_top, EReal.sub_top, bot_mul_ln2]
    | coe m => unfold ln2; rw [← EReal.coe_mul, ← EReal.coe_mul, ← EReal.coe_sub, ← EReal.coe_sub, ← EReal.coe_mul]; congr 1; ring

/-- Scores in natural units under the natural exponential are the same weights as scores in units of `log 2` under the
    power of two. -/
theorem exp_sub_ln2 (s m : EReal) : Ideal.exp (s * ln2 - m * ln2) = Ideal.exp2 (s - m) := by
  rw [sub_mul_ln2, exp_mul_ln2]

theorem mul_ln2_mono : Monotone fun x : EReal => x * ln2 := fun _ _ h => mul_le_mul_of_nonneg_right h ln2_nonneg

/-- The greatest score in natural units. -/
theorem fold_mul_ln2 {T : ℕ} (f : Fin T → EReal) :
    Finset.univ.fold max ⊥ (fun k => f k * ln2) = (Finset.univ.fold max ⊥ f) * ln2 := by
  rw [fold_max, fold_max]
  exact (Finset.comp_sup_eq_sup_comp_of_is_total (fun x : EReal => x * ln2) mul_ln2_mono bot_mul_ln2).symm

/-! ## The causal scores of one query, and the softmax of the reference -/

/-- The scores of query `q`: the key's score up to the query's own position, nothing (`⊥`) past it. -/
def sg {N : ℕ} (f : Fin N → EReal) (q k : ℕ) : EReal := if h : k < N then (if k ≤ q then f ⟨k, h⟩ else ⊥) else ⊥
/-- One component of the keys' values. -/
def vl {N : ℕ} (v : Fin N → EReal) (k : ℕ) : EReal := if h : k < N then v ⟨k, h⟩ else 0

theorem sg_of_le {N : ℕ} (f : Fin N → EReal) (q k : ℕ) (h : k < N) (hq : k ≤ q) : sg f q k = f ⟨k, h⟩ := by
  unfold sg; rw [dif_pos h, if_pos hq]
theorem sg_of_lt {N : ℕ} (f : Fin N → EReal) (q k : ℕ) (hq : q < k) : sg f q k = ⊥ := by
  unfold sg; split
  · rw [if_neg (by omega)]
  · rfl
theorem vl_of_lt {N : ℕ} (v : Fin N → EReal) (k : ℕ) (h : k < N) : vl v k = v ⟨k, h⟩ := by unfold vl; rw [dif_pos h]

/-- The softmax written with the natural exponential of the scores times `ln 2` is the quotient of the sums of powers of two. -/
theorem softmax_eq {N : ℕ} (f v : Fin N → EReal) (q : ℕ) (s : Fin N → EReal)
    (hs : ∀ k : Fin N, s k = if k.val ≤ q then f k * ln2 else ⊥) :
    Ideal.div (∑ k, v k * Ideal.exp (s k - Finset.univ.fold max ⊥ s)) (∑ k, Ideal.exp (s k - Finset.univ.fold max ⊥ s))
      = Ideal.div (ac (sg f q) (vl v) N) (ls (sg f q) N) := by
  have e : s = fun k : Fin N => sg f q k.val * ln2 := by
    funext k
    rw [hs k]; unfold sg; rw [dif_pos k.isLt]
    split
    · rfl
    · exact bot_mul_ln2.symm
  have em : Finset.univ.fold max ⊥ s = mx (sg f q) N * ln2 := by
    rw [e, fold_mul_ln2]
    congr 1
    have := mx_step (sg f q) 0 N
    rw [mx_zero] at this
    simpa using this
  rw [em, e]
  simp only [exp_sub_ln2]
  unfold ac ls
  congr 1
  · rw [Finset.sum_range]
    exact Finset.sum_congr rfl fun k _ => by rw [vl_of_lt v k.val k.isLt]
  · rw [Finset.sum_range]

end Cert.Online

end
-- ==== Proof.FoxIdeal.Step.lean ====
module
public import proofs.«01_k».proof.Proof.FoxIdeal.Flash
public import Idealize.ShloMosaic.Lib.Pointwise
public import Idealize.ShloMosaic.Lib.Pipeline.ValueKit
public import Idealize.ShloMosaic.Lib.Pipeline.ReadBack
public import proofs.«01_k».proof.Proof.Online
@[expose] public section
set_option maxRecDepth 16384
noncomputable section
namespace Cert.KernelIdeal.Fox
open Cert.KernelIdeal Cert.KernelIdeal.Gen
open Idealize.ShloMosaic
open Idealize.ShloMosaic.TcCoe Idealize.ShloMosaic.Tactic
theorem negInf : Ideal.ofBits .f32 0xFF800000#32 = ⊥ := by simp [Ideal.ofBits, Ideal.ieee]

abbrev XQ := FVec Ideal S1x2x1024x128 .bf16
abbrev XV := FVec Ideal S1x128x1024 .bf16
abbrev SM := FVec Ideal S2x1x1024 .f32
abbrev SA := FVec Ideal S2x64x1024 .f32
/-- The block's scores of head `g`: key `k` against query `r`. -/
def raw (x0 x1 : XQ) (g : Fin 2) (k r : Fin 1024) : EReal := ∑ d : Fin 128, x1 (ix4 0 g k d) * x0 (ix4 0 g r d)
theorem k0_off1_lt (i : grid0.Coords) : k0_off1 i 0 < 36 := by have := k0_off1_inb i 0; simp at this; omega
def wd0 (i : grid0.Coords) (X : S36.Idx → Elt Ideal .i32) : BitVec 32 := X (ix1 ⟨k0_off1 i 0, k0_off1_lt i⟩)
theorem exp2_eq (x : EReal) : FloatOps.exp2 (F := Ideal) (φ := .f32) x = Ideal.exp2 x := rfl
theorem pay1_eq (i) : k0_pay1 (F := Ideal) i = ⊥ := by pointwise [k0_pay1, negInf]
theorem pay2_eq (i) : k0_pay2 (F := Ideal) i = 0 := by pointwise [k0_pay2]
theorem pay3_eq (i) : k0_pay3 (F := Ideal) i = 0 := by pointwise [k0_pay3]
/-- Two pieces that hold an index hide the piece under them. -/
theorem canon_trim {S : Shape} {e : EltTy} (p q r : View.Piece (Elt Ideal) S e) (y : S.Idx)
    (h : ∃ x ∈ [p, q], y ∈ x.1.set) : View.canon [p, q, r] y = View.canon [p, q] y := by
  by_cases hp : y ∈ p.1.set
  · obtain ⟨x, rfl⟩ := p.1.exists_idx_of_mem hp
    exact (View.canon_cons_emb p.1 p.2 [q, r] x).trans (View.canon_cons_emb p.1 p.2 [q] x).symm
  · rw [View.canon_cons_of_not_mem _ _ hp, View.canon_cons_of_not_mem _ _ hp]
    have hq : y ∈ q.1.set := by
      obtain ⟨x, hx, hy⟩ := h
      simp only [List.mem_cons, List.not_mem_nil, or_false] at hx
      rcases hx with rfl | rfl
      · exact absurd hy hp
      · exact hy
    obtain ⟨x, rfl⟩ := q.1.exists_idx_of_mem hq
    exact (View.canon_cons_emb q.1 q.2 [r] x).trans (View.canon_cons_emb q.1 q.2 [] x).symm
def msk (i j : BitVec 32) (s : Fin 2 → Fin 1024 → Fin 1024 → EReal) (g : Fin 2) (k r : Fin 1024) : EReal :=
  Scalar.select (IntOp.cmpi .sle (IntOp.addi (Scalar.muli j 1024#32) (BitVec.ofNat 32 k)) (IntOp.addi (Scalar.muli i 1024#32) (BitVec.ofNat 32 r))) (s g k r) ⊥
def newM (sc : Fin 2 → Fin 1024 → Fin 1024 → EReal) (p : SM) (g : Fin 2) (r : Fin 1024) : EReal :=
  max (p (ix3 g 0 r)) (Finset.univ.fold max ⊥ fun k : Fin 1024 => sc g k r)
def newL (sc : Fin 2 → Fin 1024 → Fin 1024 → EReal) (p l : SM) (g : Fin 2) (r : Fin 1024) : EReal :=
  Ideal.exp2 (p (ix3 g 0 r) - newM sc p g r) * l (ix3 g 0 r) + ∑ k : Fin 1024, Ideal.exp2 (sc g k r - newM sc p g r)
def newA (sc : Fin 2 → Fin 1024 → Fin 1024 → EReal) (x2 : XV) (p : SM) (a : SA) (g : Fin 2) (d : Fin 64) (r : Fin 1024) : EReal :=
  Ideal.exp2 (p (ix3 g 0 r) - newM sc p g r) * a (ix3 g d r)
    + ∑ k : Fin 1024, x2 (ix3 0 ⟨g.val * 64 + d.val, by omega⟩ k) * Ideal.exp2 (sc g k r - newM sc p g r)

/-- An index of rank three from its coordinates. -/
theorem idx3_ext {s0 s1 s2 : ℕ} (y : (⟨3, ![s0, s1, s2]⟩ : Shape).Idx) (a : Fin s0) (b : Fin s1) (c : Fin s2)
    (h0 : (y 0).val = a.val) (h1 : (y 1).val = b.val) (h2 : (y 2).val = c.val) : y = ix3 a b c := by
  funext k
  match k with
  | 0 => exact Fin.ext h0
  | 1 => exact Fin.ext h1
  | 2 => exact Fin.ext h2
theorem read_sc0 (c : Dev nD) (X) : (View.whole cc0_scratch0).read (Elt Ideal) (X : Buf (Elt Ideal) ((c : Thread nD τ).loc cc0_scratch0)) = X := rfl
theorem read_sc1 (c : Dev nD) (X) : (View.whole cc0_scratch1).read (Elt Ideal) (X : Buf (Elt Ideal) ((c : Thread nD τ).loc cc0_scratch1)) = X := rfl
theorem read_sc2 (c : Dev nD) (X) : (View.whole cc0_scratch2).read (Elt Ideal) (X : Buf (Elt Ideal) ((c : Thread nD τ).loc cc0_scratch2)) = X := rfl

set_option maxHeartbeats 3200000 in
/-- What the first tile of a query block that is also its diagonal one, leaves in the running maxima. -/
theorem step_A0 (c : Dev nD) (i) (a6 h6 a7 h7 a8 h8 a9 h9 T0 T1 T2 x0 x1 x2 u1 u2 u3 u4) (y : S2x1x1024.Idx) : (View.whole cc0_scratch0).read (Elt Ideal) (kernelRun0_A c i a6 h6 a7 h7 a8 h8 a9 h9 T0 T1 T2 x0 x1 x2 u1 u2 u3 u4).2.1 y = newM (msk (wd0 i T0) (wd0 i T1) (raw x0 x1)) (fun _ => ⊥) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0, ef1, ef2, ef3]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0, ef1, ef2, ef3]

set_option maxHeartbeats 3200000 in
/-- What the first tile of a query block that is also its diagonal one, leaves in the running sums of powers. -/
theorem step_A1 (c : Dev nD) (i) (a6 h6 a7 h7 a8 h8 a9 h9 T0 T1 T2 x0 x1 x2 u1 u2 u3 u4) (y : S2x1x1024.Idx) : (View.whole cc0_scratch1).read (Elt Ideal) (kernelRun0_A c i a6 h6 a7 h7 a8 h8 a9 h9 T0 T1 T2 x0 x1 x2 u1 u2 u3 u4).2.2.1 y = newL (msk (wd0 i T0) (wd0 i T1) (raw x0 x1)) (fun _ => ⊥) (fun _ => 0) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0, ef1, ef2, ef3]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0, ef1, ef2, ef3]

set_option maxHeartbeats 3200000 in
/-- What the first tile of a query block that is also its diagonal one, leaves in the running weighted sums of values. -/
theorem step_A2 (c : Dev nD) (i) (a6 h6 a7 h7 a8 h8 a9 h9 T0 T1 T2 x0 x1 x2 u1 u2 u3 u4) (y : S2x64x1024.Idx) : (View.whole cc0_scratch2).read (Elt Ideal) (kernelRun0_A c i a6 h6 a7 h7 a8 h8 a9 h9 T0 T1 T2 x0 x1 x2 u1 u2 u3 u4).2.2.2.1 y = newA (msk (wd0 i T0) (wd0 i T1) (raw x0 x1)) x2 (fun _ => ⊥) (fun _ => 0) (y 0) (y 1) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0, ef1, ef2, ef3]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0, ef1, ef2, ef3]

set_option maxHeartbeats 3200000 in
/-- What the first tile of a query block that is also its diagonal one, leaves in the output block: the weighted sums over the sums of powers. -/
theorem step_Aout (c : Dev nD) (i) (a6 h6 a7 h7 a8 h8 a9 h9 T0 T1 T2 x0 x1 x2 u1 u2 u3 u4) (y : S1x128x1024.Idx) (g : Fin 2) (d : Fin 64) (e1 : (y 1).val = g.val * 64 + d.val) : out0_A_3 c i a6 h6 a7 h7 a8 h8 a9 h9 T0 T1 T2 x0 x1 x2 u1 u2 u3 u4 y = Ideal.div (newA (msk (wd0 i T0) (wd0 i T1) (raw x0 x1)) x2 (fun _ => ⊥) (fun _ => 0) g d (y 2)) (newL (msk (wd0 i T0) (wd0 i T1) (raw x0 x1)) (fun _ => ⊥) (fun _ => 0) g (y 2)) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · obtain rfl : g = 1 := Fin.ext (show g.val = 1 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0, ef1, ef2, ef3]
  · obtain rfl : g = 0 := Fin.ext (show g.val = 0 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0, ef1, ef2, ef3]

set_option maxHeartbeats 3200000 in
/-- What the first tile of a query block, below the diagonal, leaves in the running maxima. -/
theorem step_B0 (c : Dev nD) (i) (a6 h6 a7 h7 a8 h8 a9 h9 T0 T1 T2 x0 x1 x2 u1 u2 u3 u4) (y : S2x1x1024.Idx) : (View.whole cc0_scratch0).read (Elt Ideal) (kernelRun0_B c i a6 h6 a7 h7 a8 h8 a9 h9 T0 T1 T2 x0 x1 x2 u1 u2 u3 u4).1 y = newM (raw x0 x1) (fun _ => ⊥) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0, ef1, ef2, ef3]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0, ef1, ef2, ef3]

set_option maxHeartbeats 3200000 in
/-- What the first tile of a query block, below the diagonal, leaves in the running sums of powers. -/
theorem step_B1 (c : Dev nD) (i) (a6 h6 a7 h7 a8 h8 a9 h9 T0 T1 T2 x0 x1 x2 u1 u2 u3 u4) (y : S2x1x1024.Idx) : (View.whole cc0_scratch1).read (Elt Ideal) (kernelRun0_B c i a6 h6 a7 h7 a8 h8 a9 h9 T0 T1 T2 x0 x1 x2 u1 u2 u3 u4).2.1 y = newL (raw x0 x1) (fun _ => ⊥) (fun _ => 0) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0, ef1, ef2, ef3]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0, ef1, ef2, ef3]

set_option maxHeartbeats 3200000 in
/-- What the first tile of a query block, below the diagonal, leaves in the running weighted sums of values. -/
theorem step_B2 (c : Dev nD) (i) (a6 h6 a7 h7 a8 h8 a9 h9 T0 T1 T2 x0 x1 x2 u1 u2 u3 u4) (y : S2x64x1024.Idx) : (View.whole cc0_scratch2).read (Elt Ideal) (kernelRun0_B c i a6 h6 a7 h7 a8 h8 a9 h9 T0 T1 T2 x0 x1 x2 u1 u2 u3 u4).2.2.1 y = newA (raw x0 x1) x2 (fun _ => ⊥) (fun _ => 0) (y 0) (y 1) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0, ef1, ef2, ef3]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0, ef1, ef2, ef3]

set_option maxHeartbeats 3200000 in
/-- What a later tile, the diagonal one, leaves in the running maxima. -/
theorem step_C0 (c : Dev nD) (i) (a6 h6 a7 h7 a8 h8 a9 h9 T0 T1 T2 x0 x1 x2 p0 p1 p2 u1 u2 u3 u4) (y : S2x1x1024.Idx) : (View.whole cc0_scratch0).read (Elt Ideal) (kernelRun0_C c i a6 h6 a7 h7 a8 h8 a9 h9 T0 T1 T2 x0 x1 x2 p0 p1 p2 u1 u2 u3 u4).2.1 y = newM (msk (wd0 i T0) (wd0 i T1) (raw x0 x1)) p0 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0]

set_option maxHeartbeats 3200000 in
/-- What a later tile, the diagonal one, leaves in the running sums of powers. -/
theorem step_C1 (c : Dev nD) (i) (a6 h6 a7 h7 a8 h8 a9 h9 T0 T1 T2 x0 x1 x2 p0 p1 p2 u1 u2 u3 u4) (y : S2x1x1024.Idx) : (View.whole cc0_scratch1).read (Elt Ideal) (kernelRun0_C c i a6 h6 a7 h7 a8 h8 a9 h9 T0 T1 T2 x0 x1 x2 p0 p1 p2 u1 u2 u3 u4).2.2.1 y = newL (msk (wd0 i T0) (wd0 i T1) (raw x0 x1)) p0 p1 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0]

set_option maxHeartbeats 3200000 in
/-- What a later tile, the diagonal one, leaves in the running weighted sums of values. -/
theorem step_C2 (c : Dev nD) (i) (a6 h6 a7 h7 a8 h8 a9 h9 T0 T1 T2 x0 x1 x2 p0 p1 p2 u1 u2 u3 u4) (y : S2x64x1024.Idx) : (View.whole cc0_scratch2).read (Elt Ideal) (kernelRun0_C c i a6 h6 a7 h7 a8 h8 a9 h9 T0 T1 T2 x0 x1 x2 p0 p1 p2 u1 u2 u3 u4).2.2.2.1 y = newA (msk (wd0 i T0) (wd0 i T1) (raw x0 x1)) x2 p0 p2 (y 0) (y 1) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0]

set_option maxHeartbeats 3200000 in
/-- What a later tile, the diagonal one, leaves in the output block: the weighted sums over the sums of powers. -/
theorem step_Cout (c : Dev nD) (i) (a6 h6 a7 h7 a8 h8 a9 h9 T0 T1 T2 x0 x1 x2 p0 p1 p2 u1 u2 u3 u4) (y : S1x128x1024.Idx) (g : Fin 2) (d : Fin 64) (e1 : (y 1).val = g.val * 64 + d.val) : out0_C_3 c i a6 h6 a7 h7 a8 h8 a9 h9 T0 T1 T2 x0 x1 x2 p0 p1 p2 u1 u2 u3 u4 y = Ideal.div (newA (msk (wd0 i T0) (wd0 i T1) (raw x0 x1)) x2 p0 p2 g d (y 2)) (newL (msk (wd0 i T0) (wd0 i T1) (raw x0 x1)) p0 p1 g (y 2)) := by
  frame_open
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · obtain rfl : g = 1 := Fin.ext (show g.val = 1 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0]
  · obtain rfl : g = 0 := Fin.ext (show g.val = 0 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0]

set_option maxHeartbeats 3200000 in
/-- What a later tile, below the diagonal, leaves in the running maxima. -/
theorem step_D0 (c : Dev nD) (i) (a6 h6 a7 h7 a8 h8 a9 h9 T0 T1 T2 x0 x1 x2 p0 p1 p2 u1 u2 u3 u4) (y : S2x1x1024.Idx) : (View.whole cc0_scratch0).read (Elt Ideal) (kernelRun0_D c i a6 h6 a7 h7 a8 h8 a9 h9 T0 T1 T2 x0 x1 x2 p0 p1 p2 u1 u2 u3 u4).1 y = newM (raw x0 x1) p0 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0]

set_option maxHeartbeats 3200000 in
/-- What a later tile, below the diagonal, leaves in the running sums of powers. -/
theorem step_D1 (c : Dev nD) (i) (a6 h6 a7 h7 a8 h8 a9 h9 T0 T1 T2 x0 x1 x2 p0 p1 p2 u1 u2 u3 u4) (y : S2x1x1024.Idx) : (View.whole cc0_scratch1).read (Elt Ideal) (kernelRun0_D c i a6 h6 a7 h7 a8 h8 a9 h9 T0 T1 T2 x0 x1 x2 p0 p1 p2 u1 u2 u3 u4).2.1 y = newL (raw x0 x1) p0 p1 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0]

set_option maxHeartbeats 3200000 in
/-- What a later tile, below the diagonal, leaves in the running weighted sums of values. -/
theorem step_D2 (c : Dev nD) (i) (a6 h6 a7 h7 a8 h8 a9 h9 T0 T1 T2 x0 x1 x2 p0 p1 p2 u1 u2 u3 u4) (y : S2x64x1024.Idx) : (View.whole cc0_scratch2).read (Elt Ideal) (kernelRun0_D c i a6 h6 a7 h7 a8 h8 a9 h9 T0 T1 T2 x0 x1 x2 p0 p1 p2 u1 u2 u3 u4).2.2.1 y = newA (raw x0 x1) x2 p0 p2 (y 0) (y 1) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0]

end Cert.KernelIdeal.Fox
end
-- ==== Proof.FoxIdeal.Inv.lean ====
module
public import proofs.«01_k».proof.Proof.FoxIdeal.Step
public import Idealize.ShloMosaic.Lib.WordCmp
@[expose] public section
set_option maxRecDepth 16384
noncomputable section
namespace Cert.KernelIdeal.Fox
open Cert.KernelIdeal Cert.KernelIdeal.Gen
open Idealize.ShloMosaic
open Idealize.ShloMosaic.TcCoe Idealize.ShloMosaic.Tactic
open Cert.Online (mx ls ac sg vl)

/-! ## Where a grid point stands: batch, pair of heads, query block, key block -/

/-- The batch of point `t`. -/
def bI (t : ℕ) : ℕ := t / 144
/-- The pair of heads of point `t`. -/
def hI (t : ℕ) : ℕ := t / 36 % 4
/-- The query block of point `t`. -/
def iI (t : ℕ) : ℕ := [0,1,1,2,2,2,3,3,3,3,4,4,4,4,4,5,5,5,5,5,5,6,6,6,6,6,6,6,7,7,7,7,7,7,7,7].getD (t % 36) 0
/-- The key block of point `t`. -/
def jI (t : ℕ) : ℕ := [0,0,1,0,1,2,0,1,2,3,0,1,2,3,4,0,1,2,3,4,5,0,1,2,3,4,5,6,0,1,2,3,4,5,6,7].getD (t % 36) 0

theorem N_eq : (cfgA 0).N = 288 := by decide +kernel
theorem idx0 : ∀ t : Fin (cfgA 0).N, ((cfgA 0).win 0).index t = ![bI t, hI t, iI t, 0] := by decide +kernel
theorem idx1 : ∀ t : Fin (cfgA 0).N, ((cfgA 0).win 1).index t = ![bI t, hI t, jI t, 0] := by decide +kernel
theorem idx2 : ∀ t : Fin (cfgA 0).N, ((cfgA 0).win 2).index t = ![bI t, hI t, jI t] := by decide +kernel
theorem idx3 : ∀ t : Fin (cfgA 0).N, ((cfgA 0).win 3).index t = ![bI t, hI t, iI t] := by decide +kernel

/-- What the body's decisions and words are at each point. -/
theorem tileFacts : ∀ t : Fin (cfgA 0).N, (P0_0 0 t ↔ jI t = 0) ∧ (P0_1 0 t ↔ jI t < iI t) ∧ jI t ≤ iI t ∧ iI t < 8 ∧ bI t < 2 ∧ hI t < 4
    ∧ wd0 (crd 0 t) (pinT_0 0) = BitVec.ofNat 32 (iI t) ∧ wd0 (crd 0 t) (pinT_1 0) = BitVec.ofNat 32 (jI t) := by decide +kernel
/-- A point that is not the first of its query block follows the key block before. -/
theorem prevFacts : ∀ t : Fin 288, jI t ≠ 0 → t.val ≠ 0 ∧ bI (t.val - 1) = bI t ∧ hI (t.val - 1) = hI t ∧ iI (t.val - 1) = iI t ∧ jI (t.val - 1) + 1 = jI t := by
  decide +kernel

/-! ## One tile's update of the running statistics -/

theorem newM_eq (sc : Fin 2 → Fin 1024 → Fin 1024 → EReal) (p : SM) (g : Fin 2) (r : Fin 1024) (σ : ℕ → EReal) (n : ℕ)
    (es : ∀ k : Fin 1024, sc g k r = σ (n + k.val)) (ep : p (ix3 g 0 r) = mx σ n) : newM sc p g r = mx σ (n + 1024) := by
  unfold newM; simp only [es]; rw [ep]; exact Online.mx_step σ n 1024

theorem newL_eq (sc : Fin 2 → Fin 1024 → Fin 1024 → EReal) (p l : SM) (g : Fin 2) (r : Fin 1024) (σ : ℕ → EReal) (n : ℕ)
    (es : ∀ k : Fin 1024, sc g k r = σ (n + k.val)) (ep : p (ix3 g 0 r) = mx σ n) (el : l (ix3 g 0 r) = ls σ n) :
    newL sc p l g r = ls σ (n + 1024) := by
  unfold newL; rw [newM_eq sc p g r σ n es ep]; simp only [es]; rw [ep, el]; exact Online.ls_step σ n 1024

theorem newA_eq (sc : Fin 2 → Fin 1024 → Fin 1024 → EReal) (x2 : XV) (p : SM) (a : SA) (g : Fin 2) (d : Fin 64) (r : Fin 1024) (σ v : ℕ → EReal) (n : ℕ)
    (es : ∀ k : Fin 1024, sc g k r = σ (n + k.val)) (ep : p (ix3 g 0 r) = mx σ n) (ea : a (ix3 g d r) = ac σ v n)
    (ev : ∀ k : Fin 1024, x2 (ix3 0 ⟨g.val * 64 + d.val, by omega⟩ k) = v (n + k.val)) :
    newA sc x2 p a g d r = ac σ v (n + 1024) := by
  unfold newA; rw [newM_eq sc p g r σ n es ep]; simp only [es, ev]; rw [ep, ea]; exact Online.ac_step σ v n 1024

/-- The mask of a tile: the score where the key's position is at most the query's. -/
theorem msk_eq (i j : ℕ) (s : Fin 2 → Fin 1024 → Fin 1024 → EReal) (g : Fin 2) (k r : Fin 1024) (ei : i < 8) (ej : j < 8) :
    msk (BitVec.ofNat 32 i) (BitVec.ofNat 32 j) s g k r = if j * 1024 + k.val ≤ i * 1024 + r.val then s g k r else ⊥ := by
  unfold msk Scalar.select Scalar.muli IntOp.muli IntOp.addi
  rw [← BitVec.ofNat_mul, ← BitVec.ofNat_mul, ← BitVec.ofNat_add, ← BitVec.ofNat_add]
  by_cases hle : j * 1024 + k.val ≤ i * 1024 + r.val
  · rw [if_pos hle, if_pos]
    exact (WordCmp.cmpi_sle_ofNat_eq_one_iff (by omega) (by omega)).mpr hle
  · rw [if_neg hle, if_neg]
    exact fun hh => hle ((WordCmp.cmpi_sle_ofNat_eq_one_iff (by omega) (by omega)).mp hh)

variable (m : (ℓ : Loc nD τ sig) → Buf (Elt Ideal) ℓ) (ρ : Dev nD → PrngReg)

/-- The three argument arrays. -/
abbrev Qa (c : Dev nD) : FVec Ideal S2x8x8192x128 .bf16 := m ((c : Thread nD τ).loc main_arg0)
abbrev Ka (c : Dev nD) : FVec Ideal S2x8x8192x128 .bf16 := m ((c : Thread nD τ).loc main_arg1)
abbrev Va (c : Dev nD) : FVec Ideal S2x512x8192 .bf16 := m ((c : Thread nD τ).loc main_arg2)

/-- Query `q` of head `h` against every key. -/
def dotv (c : Dev nD) (b : Fin 2) (h : Fin 8) (q : Fin 8192) (k : Fin 8192) : EReal :=
  ∑ d : Fin 128, Ka m c (ix4 b h k d) * Qa m c (ix4 b h q d)
/-- The causal scores of query `q`. -/
abbrev sgv (c : Dev nD) (b : Fin 2) (h : Fin 8) (q : Fin 8192) : ℕ → EReal := sg (dotv m c b h q) q.val
/-- Row `w` of the values. -/
abbrev vlv (c : Dev nD) (b : Fin 2) (w : Fin 512) : ℕ → EReal := vl fun k : Fin 8192 => Va m c (ix3 b w k)

theorem iblk0_eq (c : Dev nD) (t : Fin (cfgA 0).N) (g : Fin 2) (r : Fin 1024) (d : Fin 128) (b : Fin 2) (h : Fin 8) (q : Fin 8192)
    (eb : b.val = bI t) (eh : h.val = hI t * 2 + g) (eq : q.val = iI t * 1024 + r) :
    (iblk 0 m ρ c 0 t : XQ) (ix4 0 g r d) = Qa m c (ix4 b h q d) := by
  blk_ext [iblk, V, idx0 t]
theorem iblk1_eq (c : Dev nD) (t : Fin (cfgA 0).N) (g : Fin 2) (r : Fin 1024) (d : Fin 128) (b : Fin 2) (h : Fin 8) (q : Fin 8192)
    (eb : b.val = bI t) (eh : h.val = hI t * 2 + g) (eq : q.val = jI t * 1024 + r) :
    (iblk 0 m ρ c 1 t : XQ) (ix4 0 g r d) = Ka m c (ix4 b h q d) := by
  blk_ext [iblk, V, idx1 t]
theorem iblk2_eq (c : Dev nD) (t : Fin (cfgA 0).N) (w : Fin 128) (r : Fin 1024) (b : Fin 2) (u : Fin 512) (q : Fin 8192)
    (eb : b.val = bI t) (eh : u.val = hI t * 128 + w) (eq : q.val = jI t * 1024 + r) :
    (iblk 0 m ρ c 2 t : XV) (ix3 0 w r) = Va m c (ix3 b u q) := by
  blk_ext [iblk, V, idx2 t]

theorem raw_eq (c : Dev nD) (t : Fin (cfgA 0).N) (g : Fin 2) (k r : Fin 1024) (b : Fin 2) (h : Fin 8) (q : Fin 8192) (kk : Fin 8192)
    (eb : b.val = bI t) (eh : h.val = hI t * 2 + g) (eq : q.val = iI t * 1024 + r) (ek : kk.val = jI t * 1024 + k) :
    raw (iblk 0 m ρ c 0 t) (iblk 0 m ρ c 1 t) g k r = dotv m c b h q kk := by
  unfold raw dotv
  refine Finset.sum_congr rfl fun d _ => ?_
  rw [iblk0_eq m ρ c t g r d b h q eb eh eq, iblk1_eq m ρ c t g k d b h kk eb eh ek]

/-- The scores a point works with: masked on the diagonal, plain below it. -/
def scT (c : Dev nD) (t : Fin (cfgA 0).N) : Fin 2 → Fin 1024 → Fin 1024 → EReal :=
  if jI t < iI t then raw (iblk 0 m ρ c 0 t) (iblk 0 m ρ c 1 t)
  else msk (wd0 (crd 0 t) (pinT_0 0)) (wd0 (crd 0 t) (pinT_1 0)) (raw (iblk 0 m ρ c 0 t) (iblk 0 m ρ c 1 t))

theorem scT_eq (c : Dev nD) (t : Fin (cfgA 0).N) (g : Fin 2) (k r : Fin 1024) (b : Fin 2) (h : Fin 8) (q : Fin 8192)
    (eb : b.val = bI t) (eh : h.val = hI t * 2 + g) (eq : q.val = iI t * 1024 + r) :
    scT m ρ c t g k r = sgv m c b h q (jI t * 1024 + k.val) := by
  obtain ⟨-, -, f2, f3, -, -, f6, f7⟩ := tileFacts t
  have hk : jI t * 1024 + k.val < 8192 := by omega
  have er := raw_eq m ρ c t g k r b h q ⟨jI t * 1024 + k.val, hk⟩ eb eh eq rfl
  unfold scT
  split
  next hlt => rw [er, sgv, Online.sg_of_le _ _ _ hk (by omega)]
  next hlt =>
    rw [f6, f7, msk_eq _ _ _ _ _ _ f3 (by omega), er]
    split
    next hle => rw [sgv, Online.sg_of_le _ _ _ hk (by omega)]
    next hle => rw [sgv, Online.sg_of_lt _ _ _ (by omega)]

/-! ## The statistics a point leaves -/

/-- The scratches of `s` hold the statistics of the queries of point `t` over their first `n` keys. -/
def Holds (c : Dev nD) (t n : ℕ) (pm pl : SM) (pa : SA) : Prop :=
  ∀ (b : Fin 2) (h : Fin 8) (q : Fin 8192) (g : Fin 2) (r : Fin 1024), b.val = bI t → h.val = hI t * 2 + g.val → q.val = iI t * 1024 + r.val →
    pm (ix3 g 0 r) = mx (sgv m c b h q) n ∧ pl (ix3 g 0 r) = ls (sgv m c b h q) n
      ∧ ∀ (d : Fin 64) (w : Fin 512), w.val = h.val * 64 + d.val → pa (ix3 g d r) = ac (sgv m c b h q) (vlv m c b w) n

theorem holds_zero (c : Dev nD) (t : ℕ) : Holds m c t 0 (fun _ => ⊥) (fun _ => 0) (fun _ => 0) :=
  fun _ _ _ _ _ _ _ _ => ⟨rfl, rfl, fun _ _ _ => rfl⟩

/-- A tile carries the statistics over its keys. -/
theorem holds_step (c : Dev nD) (t : Fin (cfgA 0).N) (pm pl : SM) (pa : SA) (hp : Holds m c t.val (jI t * 1024) pm pl pa)
    (pm' pl' : SM) (pa' : SA) (em : ∀ g r, pm' (ix3 g 0 r) = newM (scT m ρ c t) pm g r) (el : ∀ g r, pl' (ix3 g 0 r) = newL (scT m ρ c t) pm pl g r)
    (ea : ∀ g d r, pa' (ix3 g d r) = newA (scT m ρ c t) (iblk 0 m ρ c 2 t) pm pa g d r) :
    Holds m c t.val (jI t * 1024 + 1024) pm' pl' pa' := by
  intro b h q g r eb eh eq
  obtain ⟨h0, h1, h2⟩ := hp b h q g r eb eh eq
  obtain ⟨-, -, f2, f3, f4, f5, -, -⟩ := tileFacts t
  have es := fun k : Fin 1024 => scT_eq m ρ c t g k r b h q eb eh eq
  refine ⟨?_, ?_, ?_⟩
  · rw [em]; exact newM_eq _ _ _ _ _ _ es h0
  · rw [el]; exact newL_eq _ _ _ _ _ _ _ es h0 h1
  · intro d w ew
    rw [ea]
    refine newA_eq _ _ _ _ _ _ _ _ _ _ es h0 (h2 d w ew) fun k => ?_
    have hk : jI t * 1024 + k.val < 8192 := by omega
    rw [vlv, Online.vl_of_lt _ _ hk]
    exact iblk2_eq m ρ c t _ k b w ⟨_, hk⟩ eb (by show w.val = hI t * 128 + (g.val * 64 + d.val); omega) rfl

theorem scT_diag (c : Dev nD) (t : Fin (cfgA 0).N) (h : ¬ jI t < iI t) :
    scT m ρ c t = msk (wd0 (crd 0 t) (pinT_0 0)) (wd0 (crd 0 t) (pinT_1 0)) (raw (iblk 0 m ρ c 0 t) (iblk 0 m ρ c 1 t)) := if_neg h
theorem scT_full (c : Dev nD) (t : Fin (cfgA 0).N) (h : jI t < iI t) :
    scT m ρ c t = raw (iblk 0 m ρ c 0 t) (iblk 0 m ρ c 1 t) := if_pos h

end Cert.KernelIdeal.Fox
end
-- ==== Proof.FoxIdeal.Traj.lean ====
module
public import proofs.«01_k».proof.Proof.FoxIdeal.Inv
public import Idealize.ShloMosaic.Lib.WordCmp
@[expose] public section
set_option maxRecDepth 16384
noncomputable section
namespace Cert.KernelIdeal.Fox
open Cert.KernelIdeal Cert.KernelIdeal.Gen
open Idealize.ShloMosaic
open Idealize.ShloMosaic.TcCoe Idealize.ShloMosaic.Tactic
open Cert.Online (mx ls ac sg vl)

variable (m : (ℓ : Loc nD τ sig) → Buf (Elt Ideal) ℓ) (ρ : Dev nD → PrngReg)

/-- The statistics after the first tile of a query block, on the diagonal. -/
theorem holds_A (c : Dev nD) (t : Fin (cfgA 0).N) (s : St c) (q0 : P0_0 0 t) (q1 : ¬ P0_1 0 t) (hd : ¬ jI t < iI t) (hj : jI t = 0) :
    Holds m c t.val (jI t * 1024 + 1024) (step0 0 m ρ c t s).2.1 (step0 0 m ρ c t s).2.2.1 (step0 0 m ρ c t s).2.2.2 := by
  rw [step0_A 0 m ρ c t s q0 q1]
  dsimp only [st0_A]
  refine holds_step m ρ c t (fun _ => ⊥) (fun _ => 0) (fun _ => 0) (by rw [hj]; exact holds_zero m c t) _ _ _ (fun g r => ?_) (fun g r => ?_) (fun g d r => ?_) <;> rw [scT_diag m ρ c t hd]
  · exact (congrFun (read_sc0 c _).symm _).trans (step_A0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 (ix3 g 0 r))
  · exact (congrFun (read_sc1 c _).symm _).trans (step_A1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 (ix3 g 0 r))
  · exact (congrFun (read_sc2 c _).symm _).trans (step_A2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 (ix3 g d r))

/-- The statistics after the first tile of a query block, below the diagonal. -/
theorem holds_B (c : Dev nD) (t : Fin (cfgA 0).N) (s : St c) (q0 : P0_0 0 t) (q1 : P0_1 0 t) (hd : jI t < iI t) (hj : jI t = 0) :
    Holds m c t.val (jI t * 1024 + 1024) (step0 0 m ρ c t s).2.1 (step0 0 m ρ c t s).2.2.1 (step0 0 m ρ c t s).2.2.2 := by
  rw [step0_B 0 m ρ c t s q0 q1]
  dsimp only [st0_B]
  refine holds_step m ρ c t (fun _ => ⊥) (fun _ => 0) (fun _ => 0) (by rw [hj]; exact holds_zero m c t) _ _ _ (fun g r => ?_) (fun g r => ?_) (fun g d r => ?_) <;> rw [scT_full m ρ c t hd]
  · exact (congrFun (read_sc0 c _).symm _).trans (step_B0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_B 0 t q0 q1).1 (hypsR0_B 0 t q0 q1).2.1 (hypsR0_B 0 t q0 q1).2.2.1 (hypsR0_B 0 t q0 q1).2.2.2.1 (ix3 g 0 r))
  · exact (congrFun (read_sc1 c _).symm _).trans (step_B1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_B 0 t q0 q1).1 (hypsR0_B 0 t q0 q1).2.1 (hypsR0_B 0 t q0 q1).2.2.1 (hypsR0_B 0 t q0 q1).2.2.2.1 (ix3 g 0 r))
  · exact (congrFun (read_sc2 c _).symm _).trans (step_B2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_B 0 t q0 q1).1 (hypsR0_B 0 t q0 q1).2.1 (hypsR0_B 0 t q0 q1).2.2.1 (hypsR0_B 0 t q0 q1).2.2.2.1 (ix3 g d r))

/-- The statistics after a later tile, on the diagonal. -/
theorem holds_C (c : Dev nD) (t : Fin (cfgA 0).N) (s : St c) (q0 : ¬ P0_0 0 t) (q1 : ¬ P0_1 0 t) (hd : ¬ jI t < iI t) (hp : Holds m c t.val (jI t * 1024) s.2.1 s.2.2.1 s.2.2.2) :
    Holds m c t.val (jI t * 1024 + 1024) (step0 0 m ρ c t s).2.1 (step0 0 m ρ c t s).2.2.1 (step0 0 m ρ c t s).2.2.2 := by
  rw [step0_C 0 m ρ c t s q0 q1]
  dsimp only [st0_C]
  refine holds_step m ρ c t s.2.1 s.2.2.1 s.2.2.2 hp _ _ _ (fun g r => ?_) (fun g r => ?_) (fun g d r => ?_) <;> rw [scT_diag m ρ c t hd]
  · exact (congrFun (read_sc0 c _).symm _).trans (step_C0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 (ix3 g 0 r))
  · exact (congrFun (read_sc1 c _).symm _).trans (step_C1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 (ix3 g 0 r))
  · exact (congrFun (read_sc2 c _).symm _).trans (step_C2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 (ix3 g d r))

/-- The statistics after a later tile, below the diagonal. -/
theorem holds_D (c : Dev nD) (t : Fin (cfgA 0).N) (s : St c) (q0 : ¬ P0_0 0 t) (q1 : P0_1 0 t) (hd : jI t < iI t) (hp : Holds m c t.val (jI t * 1024) s.2.1 s.2.2.1 s.2.2.2) :
    Holds m c t.val (jI t * 1024 + 1024) (step0 0 m ρ c t s).2.1 (step0 0 m ρ c t s).2.2.1 (step0 0 m ρ c t s).2.2.2 := by
  rw [step0_D 0 m ρ c t s q0 q1]
  dsimp only [st0_D]
  refine holds_step m ρ c t s.2.1 s.2.2.1 s.2.2.2 hp _ _ _ (fun g r => ?_) (fun g r => ?_) (fun g d r => ?_) <;> rw [scT_full m ρ c t hd]
  · exact (congrFun (read_sc0 c _).symm _).trans (step_D0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_D 0 t q0 q1).1 (hypsR0_D 0 t q0 q1).2.1 (hypsR0_D 0 t q0 q1).2.2.1 (hypsR0_D 0 t q0 q1).2.2.2.1 (ix3 g 0 r))
  · exact (congrFun (read_sc1 c _).symm _).trans (step_D1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_D 0 t q0 q1).1 (hypsR0_D 0 t q0 q1).2.1 (hypsR0_D 0 t q0 q1).2.2.1 (hypsR0_D 0 t q0 q1).2.2.2.1 (ix3 g 0 r))
  · exact (congrFun (read_sc2 c _).symm _).trans (step_D2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_D 0 t q0 q1).1 (hypsR0_D 0 t q0 q1).2.1 (hypsR0_D 0 t q0 q1).2.2.1 (hypsR0_D 0 t q0 q1).2.2.2.1 (ix3 g d r))

/-- One point of the trajectory carries the statistics on, whichever path it takes. -/
theorem step_holds (c : Dev nD) (t : Fin (cfgA 0).N) (s : St c)
    (hp : jI t ≠ 0 → Holds m c t.val (jI t * 1024) s.2.1 s.2.2.1 s.2.2.2) :
    Holds m c t.val (jI t * 1024 + 1024) (step0 0 m ρ c t s).2.1 (step0 0 m ρ c t s).2.2.1 (step0 0 m ρ c t s).2.2.2 := by
  obtain ⟨f0, f1, -, -, -, -, -, -⟩ := tileFacts t
  by_cases q0 : P0_0 0 t <;> by_cases q1 : P0_1 0 t
  · exact holds_B m ρ c t s q0 q1 (f1.mp q1) (f0.mp q0)
  · exact holds_A m ρ c t s q0 q1 (fun hh => q1 (f1.mpr hh)) (f0.mp q0)
  · exact holds_D m ρ c t s q0 q1 (f1.mp q1) (hp fun e => q0 (f0.mpr e))
  · exact holds_C m ρ c t s q0 q1 (fun hh => q1 (f1.mpr hh)) (hp fun e => q0 (f0.mpr e))

/-- What the scratches hold before a point that is not its query block's first, from what the point before left. -/
theorem prev_holds (c : Dev nD) (t : Fin (cfgA 0).N) (ej : jI t ≠ 0)
    (ih : ∀ u : Fin (cfgA 0).N, u.val < t.val → Holds m c u.val (jI u * 1024 + 1024) (traj0 0 m ρ c u.val u.isLt).2.1 (traj0 0 m ρ c u.val u.isLt).2.2.1 (traj0 0 m ρ c u.val u.isLt).2.2.2) :
    Holds m c t.val (jI t * 1024) (prev0 0 m ρ c t).2.1 (prev0 0 m ρ c t).2.2.1 (prev0 0 m ρ c t).2.2.2 := by
  obtain ⟨p0, p1, p2, p3, p4⟩ := prevFacts (t.cast N_eq) ej
  simp only [Fin.val_cast] at p0 p1 p2 p3 p4
  have hlt : t.val - 1 < (cfgA 0).N := by omega
  have := ih ⟨t.val - 1, hlt⟩ (by show t.val - 1 < t.val; omega)
  unfold prev0
  rw [dif_neg p0]
  intro b h q g r eb eh eq
  have e := this b h q g r (by rw [eb, ← p1]) (by rw [eh, ← p2]) (by rw [eq, ← p3])
  rw [show jI t * 1024 = jI (t.val - 1) * 1024 + 1024 by omega]
  exact e

/-- After every point the scratches hold the statistics over the keys seen so far. -/
theorem traj_holds (c : Dev nD) : ∀ (n : ℕ) (hn : n < (cfgA 0).N), Holds m c n (jI n * 1024 + 1024) (traj0 0 m ρ c n hn).2.1 (traj0 0 m ρ c n hn).2.2.1 (traj0 0 m ρ c n hn).2.2.2 := by
  intro n
  induction n using Nat.strong_induction_on with
  | _ n ih =>
    intro hn
    have e := traj0_eq 0 m ρ c ⟨n, hn⟩
    simp only at e
    rw [e]
    exact step_holds m ρ c ⟨n, hn⟩ _ fun ej => prev_holds m ρ c ⟨n, hn⟩ ej fun u hu => ih u.val hu u.isLt

end Cert.KernelIdeal.Fox
end
-- ==== Proof.FoxIdeal.After.lean ====
module
public import proofs.«01_k».proof.Proof.FoxIdeal.Traj
public import Idealize.ShloMosaic.Lib.WordCmp
@[expose] public section
set_option maxRecDepth 16384
noncomputable section
namespace Cert.KernelIdeal.Fox
open Cert.KernelIdeal Cert.KernelIdeal.Gen
open Idealize.ShloMosaic
open Idealize.ShloMosaic.TcCoe Idealize.ShloMosaic.Tactic
open Cert.Online (mx ls ac sg vl)

variable (m : (ℓ : Loc nD τ sig) → Buf (Elt Ideal) ℓ) (ρ : Dev nD → PrngReg)

/-- What the call computes: the weighted sum of values over the sum of powers, of each query over all its keys. -/
def spec (c : Dev nD) (b : Fin 2) (w : Fin 512) (q : Fin 8192) : EReal :=
  Ideal.div (ac (sgv m c b ⟨w.val / 64, by omega⟩ q) (vlv m c b w) 8192) (ls (sgv m c b ⟨w.val / 64, by omega⟩ q) 8192)

/-- The output block at a diagonal point, from the statistics it leaves. -/
theorem out_eq (c : Dev nD) (t : Fin (cfgA 0).N) (ed : ¬ jI t < iI t) (pm pl : SM) (pa : SA) (hp : Holds m c t.val (jI t * 1024) pm pl pa)
    (g : Fin 2) (d : Fin 64) (r : Fin 1024) (b : Fin 2) (w : Fin 512) (q : Fin 8192)
    (eb : b.val = bI t) (ew : w.val = hI t * 128 + (g.val * 64 + d.val)) (eq : q.val = iI t * 1024 + r.val) :
    Ideal.div (newA (scT m ρ c t) (iblk 0 m ρ c 2 t) pm pa g d r) (newL (scT m ρ c t) pm pl g r) = spec m c b w q := by
  obtain ⟨-, -, f2, f3, f4, f5, -, -⟩ := tileFacts t
  have hh : w.val / 64 = hI t * 2 + g.val := by omega
  obtain ⟨-, h1, h2⟩ := holds_step m ρ c t pm pl pa hp (fun y => newM (scT m ρ c t) pm (y 0) (y 2)) (fun y => newL (scT m ρ c t) pm pl (y 0) (y 2))
    (fun y => newA (scT m ρ c t) (iblk 0 m ρ c 2 t) pm pa (y 0) (y 1) (y 2)) (fun _ _ => rfl) (fun _ _ => rfl) (fun _ _ _ => rfl)
    b ⟨w.val / 64, by omega⟩ q g r eb hh eq
  have h3 := h2 d w (by show w.val = w.val / 64 * 64 + d.val; omega)
  obtain ⟨-, t1, t2⟩ := Online.tail_bot (sgv m c b ⟨w.val / 64, by omega⟩ q) (vlv m c b w) (jI t * 1024 + 1024) 8192 (by omega)
    (fun k hk => Online.sg_of_lt _ _ _ (by omega))
  unfold spec
  rw [t1, t2]
  exact congrArg₂ Ideal.div h3 h1

/-- What the first tile of a query block, on the diagonal, leaves in its output block. -/
theorem after_A (c : Dev nD) (t : Fin (cfgA 0).N) (s : St c) (q0 : P0_0 0 t) (q1 : ¬ P0_1 0 t) (hd : ¬ jI t < iI t) (hj : jI t = 0)
    (y : S1x128x1024.Idx) (b : Fin 2) (w : Fin 512) (q : Fin 8192) (eb : b.val = bI t) (ew : w.val = hI t * 128 + (y 1).val) (eq : q.val = iI t * 1024 + (y 2).val) :
    (step0 0 m ρ c t s).1 y = spec m c b w q := by
  have hy : (y 1).val < 128 := (y 1).isLt
  have e1 : (y 1).val = (y 1).val / 64 * 64 + (y 1).val % 64 := by omega
  rw [step0_A 0 m ρ c t s q0 q1]
  dsimp only [st0_A]
  have e := step_Aout c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 y ⟨(y 1).val / 64, by omega⟩ ⟨(y 1).val % 64, by omega⟩ e1
  rw [← scT_diag m ρ c t hd] at e
  have e2 := out_eq m ρ c t hd (fun _ => ⊥) (fun _ => 0) (fun _ => 0) (by rw [hj]; exact holds_zero m c t) ⟨(y 1).val / 64, by omega⟩ ⟨(y 1).val % 64, by omega⟩ (y 2) b w q eb (by rw [ew]; exact congrArg (hI t * 128 + ·) e1) eq
  exact e.trans e2

/-- What a later tile, on the diagonal, leaves in its output block. -/
theorem after_C (c : Dev nD) (t : Fin (cfgA 0).N) (s : St c) (q0 : ¬ P0_0 0 t) (q1 : ¬ P0_1 0 t) (hd : ¬ jI t < iI t) (hp : Holds m c t.val (jI t * 1024) s.2.1 s.2.2.1 s.2.2.2)
    (y : S1x128x1024.Idx) (b : Fin 2) (w : Fin 512) (q : Fin 8192) (eb : b.val = bI t) (ew : w.val = hI t * 128 + (y 1).val) (eq : q.val = iI t * 1024 + (y 2).val) :
    (step0 0 m ρ c t s).1 y = spec m c b w q := by
  have hy : (y 1).val < 128 := (y 1).isLt
  have e1 : (y 1).val = (y 1).val / 64 * 64 + (y 1).val % 64 := by omega
  rw [step0_C 0 m ρ c t s q0 q1]
  dsimp only [st0_C]
  have e := step_Cout c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 y ⟨(y 1).val / 64, by omega⟩ ⟨(y 1).val % 64, by omega⟩ e1
  rw [← scT_diag m ρ c t hd] at e
  have e2 := out_eq m ρ c t hd s.2.1 s.2.2.1 s.2.2.2 hp ⟨(y 1).val / 64, by omega⟩ ⟨(y 1).val % 64, by omega⟩ (y 2) b w q eb (by rw [ew]; exact congrArg (hI t * 128 + ·) e1) eq
  exact e.trans e2

/-- What a point that writes its output block back leaves in it. -/
theorem after_eq (c : Dev nD) (t : Fin (cfgA 0).N) (hf : ((cfgA 0).win 3).flush t = true) (y : S1x128x1024.Idx) (b : Fin 2) (w : Fin 512) (q : Fin 8192)
    (eb : b.val = bI t) (ew : w.val = hI t * 128 + (y 1).val) (eq : q.val = iI t * 1024 + (y 2).val) :
    (traj0 0 m ρ c t.val t.isLt).1 y = spec m c b w q := by
  obtain ⟨f0, f1, -, -, -, -, -, -⟩ := tileFacts t
  have q1 : ¬ P0_1 0 t := by
    intro q1
    by_cases q0 : P0_0 0 t
    · exact absurd hf (by rw [(sched0_B 0 t q0 q1).2.1]; decide)
    · exact absurd hf (by rw [(sched0_D 0 t q0 q1).2.1]; decide)
  have ed : ¬ jI t < iI t := fun hh => q1 (f1.mpr hh)
  rw [traj0_eq]
  by_cases q0 : P0_0 0 t
  · exact after_A m ρ c t _ q0 q1 ed (f0.mp q0) y b w q eb ew eq
  · exact after_C m ρ c t _ q0 q1 ed (prev_holds m ρ c t (fun e => q0 (f0.mpr e)) fun u _ => traj_holds m ρ c u.val u.isLt) y b w q eb ew eq

/-- THE RESULT ARRAY of the launch: at every batch, row and query what `spec` says. -/
theorem final (c : Dev nD) : (dats 0 m ρ 0 c).arrAt (3 : Fin 4) (cfgA 0).N = fun y : S2x512x8192.Idx => spec m c (y 0) (y 1) (y 2) := by
  refine (dats 0 m ρ 0 c).arrAt_eq_of_covers 3 _ (by decide +kernel) fun t hf y => ?_
  blk_simp
  rw [after0_3]
  refine after_eq m ρ c t hf y _ _ _ ?_ ?_ ?_ <;> blk_simp [idx3 t]

end Cert.KernelIdeal.Fox
end
-- ==== Proof.FoxRef.lean ====
module
public import proofs.«01_k».proof.Proof.Gen.ReferenceIdeal.Run
public import Idealize.ShloMosaic.Lib.Pointwise
public import Idealize.ShloMosaic.Lib.WordCmp
public import proofs.«01_k».proof.Proof.Online
@[expose] public section
set_option maxRecDepth 16384
noncomputable section
namespace Cert.ReferenceIdeal.Fox
open Cert.ReferenceIdeal Cert.ReferenceIdeal.Gen Cert.ReferenceIdeal.Value
open Idealize.ShloMosaic
open Idealize.ShloMosaic.TcCoe Idealize.ShloMosaic.Tactic

theorem negInf : Ideal.ofBits .f32 0xFF800000#32 = ⊥ := by simp [Ideal.ofBits, Ideal.ieee]
theorem two : Ideal.ofBits .f32 0x40000000#32 = ((2 : ℝ) : EReal) := by
  simp [Ideal.ofBits, Ideal.ieee]; rw [← EReal.coe_mul]; norm_num

/-- An index of rank three is made of its coordinates. -/
theorem idx3_eta {s0 s1 s2 : ℕ} (y : (⟨3, ![s0, s1, s2]⟩ : Shape).Idx) : y = ix3 (y 0) (y 1) (y 2) := by
  funext k
  match k with
  | 0 => rfl
  | 1 => rfl
  | 2 => rfl

theorem log_two : Ideal.log ((2 : ℝ) : EReal) = Online.ln2 := by
  show (if (2 : ℝ) ≤ 0 then (⊥ : EReal) else (Real.log 2 : EReal)) = _
  rw [if_neg (by norm_num)]; rfl

/-- An array of queries or of keys. -/
abbrev XQ := FVec Ideal S2x8x8192x128 .bf16
/-- The array of values. -/
abbrev XV := FVec Ideal S2x512x8192 .bf16

/-! ## The reference's intermediate arrays -/

/-- The masked scores. -/
def Sc (Q K : XQ) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S2x8x8192x128_S2x8x8192x128_S2x8x8192x8192_3_3_2_2_01_01 none (extf .f32 Q bitsLt_bf16_f32) (extf .f32 K bitsLt_bf16_f32)) (broadcastInDim S2x8x8192x8192 ![] bcast_S_S2x8x8192x8192 (Host.log (constant S_ .f32 0x40000000#32)))) (broadcastInDim S2x8x8192x8192 ![] bcast_S_S2x8x8192x8192 (id (constant S_ .f32 0xFF800000#32)))
/-- The greatest score of each query. -/
def Mx (Q K : XQ) : FVec Ideal S2x8x8192 .f32 :=
  Host.reduce FloatOps.maximumf (Sc Q K) (constant S_ .f32 0xFF800000#32) reducesTo_S2x8x8192x8192_S2x8x8192_d3 h_S_
/-- The exponentials of the scores less their maximum. -/
def Pr (Q K : XQ) : FVec Ideal S2x8x8192x8192 .f32 :=
  Host.exp (subf (Sc Q K) (broadcastInDim S2x8x8192x8192 ![0, 1, 2, 3] bcast_S2x8x8192x1_S2x8x8192x8192_0_1_2_3 (broadcastInDim S2x8x8192x1 ![0, 1, 2] bcast_S2x8x8192_S2x8x8192x1_0_1_2 (Mx Q K))))
/-- The sums of the exponentials. -/
def Dn (Q K : XQ) : FVec Ideal S2x8x8192 .f32 :=
  Host.reduceAdd (Pr Q K) (constant S_ .f32 0x00000000#32) reducesTo_S2x8x8192x8192_S2x8x8192_d3 h_S_
/-- The sums of the values, weighted. -/
def Nm (Q K : XQ) (V : XV) : FVec Ideal S2x8x64x8192 .f32 :=
  Host.dotGeneral dot_S2x8x64x8192_S2x8x8192x8192_S2x8x64x8192_3_3_2_2_01_01 none (shapeCast _ (extf .f32 V bitsLt_bf16_f32) shapeCasts_S2x512x8192_S2x8x64x8192) (Pr Q K)

theorem res_split (m : (ℓ : Loc nD τ sig) → Buf (Elt Ideal) ℓ) (c : Dev nD) :
    res_main_v25 m c = shapeCast _ (Host.divf (Nm (m ((c.tc : Thread nD τ).loc main_arg0)) (m ((c.tc : Thread nD τ).loc main_arg1)) (m ((c.tc : Thread nD τ).loc main_arg2))) (broadcastInDim S2x8x64x8192 ![0, 1, 2, 3] bcast_S2x8x1x8192_S2x8x64x8192_0_1_2_3 (broadcastInDim S2x8x1x8192 ![0, 1, 3] bcast_S2x8x8192_S2x8x1x8192_0_1_3 (Dn (m ((c.tc : Thread nD τ).loc main_arg0)) (m ((c.tc : Thread nD τ).loc main_arg1)))))) shapeCasts_S2x8x64x8192_S2x512x8192 := by
  unfold res_main_v25 Nm Dn Pr Mx Sc; rfl

/-- One masked score. -/
theorem Sc_eq (Q K : XQ) (b : Fin 2) (h : Fin 8) (q k : Fin 8192) :
    Sc Q K (ix4 b h q k) = if k.val ≤ q.val then (∑ d, K (ix4 b h k d) * Q (ix4 b h q d)) * Online.ln2 else ⊥ := by
  unfold Sc
  pointwise [negInf, two]
  rw [log_two, show (id (constant (F := Ideal) S_ .f32 0xFF800000#32)) ix0 = ⊥ from negInf]
  unfold Scalar.select
  by_cases hle : k.val ≤ q.val
  · rw [if_pos hle]
    refine (if_pos ((WordCmp.cmpi_sle_ofNat_eq_one_iff (w := 32) (by omega) (by omega)).mpr hle)).trans ?_
    exact congrArg (· * Online.ln2) (Finset.sum_congr rfl fun d _ => mul_comm _ _)
  · rw [if_neg hle]
    exact if_neg fun e => hle ((WordCmp.cmpi_sle_ofNat_eq_one_iff (w := 32) (by omega) (by omega)).mp e)
theorem Mx_eq (Q K : XQ) (b : Fin 2) (h : Fin 8) (q : Fin 8192) :
    Mx Q K (ix3 b h q) = Finset.univ.fold max ⊥ fun k => Sc Q K (ix4 b h q k) := by
  unfold Mx
  pointwise [negInf, two]
theorem Pr_eq (Q K : XQ) (b : Fin 2) (h : Fin 8) (q k : Fin 8192) :
    Pr Q K (ix4 b h q k) = Ideal.exp (Sc Q K (ix4 b h q k) - Finset.univ.fold max ⊥ fun k => Sc Q K (ix4 b h q k)) := by
  unfold Pr
  pointwise [negInf, two, Mx_eq]
theorem Dn_eq (Q K : XQ) (b : Fin 2) (h : Fin 8) (q : Fin 8192) :
    Dn Q K (ix3 b h q) = ∑ k, Pr Q K (ix4 b h q k) := by
  unfold Dn
  pointwise [negInf, two]
theorem Nm_eq (Q K : XQ) (V : XV) (b : Fin 2) (h : Fin 8) (d : Fin 64) (q : Fin 8192) (w : Fin 512) (ew : w.val = h.val * 64 + d.val) :
    Nm Q K V (ix4 b h d q) = ∑ k, V (ix3 b w k) * Pr Q K (ix4 b h q k) := by
  have hb : h.val * 64 + d.val < 512 := by omega
  have ew' : w = ⟨h.val * 64 + d.val, hb⟩ := Fin.ext ew
  clear ew; subst ew'
  unfold Nm
  pointwise [negInf, two]
/-- The reference's result at one place, by the running statistics over all the keys. -/
theorem res_eq (m : (ℓ : Loc nD τ sig) → Buf (Elt Ideal) ℓ) (c : Dev nD) (Q K : XQ) (V : XV)
    (eQ : m ((c.tc : Thread nD τ).loc main_arg0) = Q) (eK : m ((c.tc : Thread nD τ).loc main_arg1) = K) (eV : m ((c.tc : Thread nD τ).loc main_arg2) = V)
    (b : Fin 2) (w : Fin 512) (q : Fin 8192) :
    (res_main_v25 m c : FVec Ideal S2x512x8192 .f32) (ix3 b w q)
      = Ideal.div (Online.ac (Online.sg (fun k => ∑ d, K (ix4 b ⟨w.val / 64, by omega⟩ k d) * Q (ix4 b ⟨w.val / 64, by omega⟩ q d)) q.val) (Online.vl fun k => V (ix3 b w k)) 8192)
        (Online.ls (Online.sg (fun k => ∑ d, K (ix4 b ⟨w.val / 64, by omega⟩ k d) * Q (ix4 b ⟨w.val / 64, by omega⟩ q d)) q.val) 8192) := by
  rw [res_split, eQ, eK, eV]
  refine Eq.trans ?_ (Online.softmax_eq (fun k => ∑ d, K (ix4 b ⟨w.val / 64, by omega⟩ k d) * Q (ix4 b ⟨w.val / 64, by omega⟩ q d)) (fun k => V (ix3 b w k)) q.val
    (fun k => Sc Q K (ix4 b ⟨w.val / 64, by omega⟩ q k)) fun k => Sc_eq Q K b _ q k)
  pointwise []
  rw [Nm_eq Q K V b ⟨w.val / 64, by omega⟩ ⟨w.val % 64, by omega⟩ q w (by show w.val = w.val / 64 * 64 + w.val % 64; omega), Dn_eq]
  simp only [Pr_eq]

end Cert.ReferenceIdeal.Fox
end
-- ==== Proof.DiffBits.Runs.lean ====
module

public import proofs.«01_k».proof.Proof.Gen.Kernel2.Skeleton
public import proofs.«01_k».proof.Proof.DiffBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2.Diff

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- The word of the table of key blocks that the body reads at grid coordinates `i`. -/
abbrev rd1 (i : grid0.Coords) (T1 : S36.Idx → Elt Bits .i32) := (View.readAt (Elt Bits) (tbM0_1).view (Rect.unit (s := S36) (k0_off1 i) S1.size (k0_off1_inb i)).toLoadRect T1 (Shape.Idx.first (numel1_S1.symm ▸ Nat.one_pos)))
/-- The word of the table of flags that the body reads at grid coordinates `i`. -/
abbrev rd2 (i : grid0.Coords) (T2 : S36.Idx → Elt Bits .i32) := (View.readAt (Elt Bits) (tbM0_2).view (Rect.unit (s := S36) (k0_off1 i) S1.size (k0_off1_inb i)).toLoadRect T2 (Shape.Idx.first (numel1_S1.symm ▸ Nat.one_pos)))

/-- One staging buffer of output window 3, through which its contents are stated (`View.read_writes_of_cover`). -/
abbrev VO0_3 : View sig .tc .vmem S1x256x1024 .f32 := (Memref.whole cc0_stg3_0 : Memref sig .tc .vmem S1x256x1024 .f32).view

set_option backward.proofsInPublic true in
set_option maxHeartbeats 8000000 in
/-- PATH A (points 0, 36, … 252: 8 of 288): what the body leaves — per stored output its pieces (last first), per scratch its
    contents — WITH the proof that, on whole staging memrefs, from the inputs at their blocks, the tables, the outputs
    (3: stored) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Bits) S1x256x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_diff_eq_skeleton]; unfold cc0_flash_diff_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path A's pieces for output 3 tile its block (2 stores of `S1x128x1024`: the kernel evaluates the tiling, `Piece.tiledL`). -/
theorem cover0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x256x1024.Idx) :
    ∃ pc ∈ (kernelRun0_A c i arg6 harg6 arg7 harg7 arg8 harg8 arg9 harg9 T0 T1 T2 x0 x1 x2 hc0 hc1 hc2 k0_h4).1, y ∈ pc.1.set :=
  View.cover_of_tiledL (kernelRun0_A c i arg6 harg6 arg7 harg7 arg8 harg8 arg9 harg9 T0 T1 T2 x0 x1 x2 hc0 hc1 hc2 k0_h4).1 S1x128x1024.size (by sl_kernel_rfl) y

/-- What path A leaves in output 3's staging buffer: its pieces read back over junk. -/
def out0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x256x1024.Idx → Elt Bits .f32) :=
  VO0_3.read (Elt Bits) (VO0_3.writes (Elt Bits) VO0_3.junk (kernelRun0_A c i arg6 harg6 arg7 harg7 arg8 harg8 arg9 harg9 T0 T1 T2 x0 x1 x2 hc0 hc1 hc2 k0_h4).1)

set_option backward.proofsInPublic true in
set_option maxHeartbeats 8000000 in
/-- PATH B (points 1, 3, … 280: 56 of 288): what the body leaves — per stored output its pieces (last first), per scratch its
    contents — WITH the proof that, on whole staging memrefs, from the inputs at their blocks, the tables, the outputs
    (3: idle) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (hc0 : (Scalar.cmpi .ne (Scalar.extui (Scalar.cmpi .eq (rd1 i T1) 0#32)) 0#32) = 1#1) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S1x256x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x256x1024.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0_flash_diff_eq_skeleton]; unfold cc0_flash_diff_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

set_option backward.proofsInPublic true in
set_option maxHeartbeats 8000000 in
/-- PATH C (points 2, 5, … 287: 56 of 288): what the body leaves — per stored output its pieces (last first), per scratch its
    contents — WITH the proof that, on whole staging memrefs, from the inputs at their blocks, the tables, the outputs
    (3: stored) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Bits) S1x256x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun K => by
    unfold owns
    rw [cc0_flash_diff_eq_skeleton]; unfold cc0_flash_diff_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path C's pieces for output 3 tile its block (2 stores of `S1x128x1024`: the kernel evaluates the tiling, `Piece.tiledL`). -/
theorem cover0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x256x1024.Idx) :
    ∃ pc ∈ (kernelRun0_C c i arg6 harg6 arg7 harg7 arg8 harg8 arg9 harg9 T0 T1 T2 x0 x1 x2 xa0 xa1 xa2 hc0 hc1 hc2 k0_h4).1, y ∈ pc.1.set :=
  View.cover_of_tiledL (kernelRun0_C c i arg6 harg6 arg7 harg7 arg8 harg8 arg9 harg9 T0 T1 T2 x0 x1 x2 xa0 xa1 xa2 hc0 hc1 hc2 k0_h4).1 S1x128x1024.size (by sl_kernel_rfl) y

/-- What path C leaves in output 3's staging buffer: its pieces read back over junk. -/
def out0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x256x1024.Idx → Elt Bits .f32) :=
  VO0_3.read (Elt Bits) (VO0_3.writes (Elt Bits) VO0_3.junk (kernelRun0_C c i arg6 harg6 arg7 harg7 arg8 harg8 arg9 harg9 T0 T1 T2 x0 x1 x2 xa0 xa1 xa2 hc0 hc1 hc2 k0_h4).1)

set_option backward.proofsInPublic true in
set_option maxHeartbeats 8000000 in
/-- PATH D (points 4, 7, … 286: 168 of 288): what the body leaves — per stored output its pieces (last first), per scratch its
    contents — WITH the proof that, on whole staging memrefs, from the inputs at their blocks, the tables, the outputs
    (3: idle) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Bits .i32)) (T1 : (S36.Idx → Elt Bits .i32)) (T2 : (S36.Idx → Elt Bits .i32))
     (x0 : (S1x2x1024x128.Idx → Elt Bits .bf16)) (x1 : (S1x2x1024x128.Idx → Elt Bits .bf16)) (x2 : (S1x256x1024.Idx → Elt Bits .bf16)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬((Scalar.cmpi .ne (Scalar.extui (Scalar.cmpi .eq (rd1 i T1) 0#32)) 0#32) = 1#1)) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Bits) ((c : Thread nD τ).loc cc0_scratch0)) (out1 : Buf (Elt Bits) ((c : Thread nD τ).loc cc0_scratch1)), { out2 : Buf (Elt Bits) ((c : Thread nD τ).loc cc0_scratch2) //
      ∀ (y3 : (S1x256x1024.Idx → Elt Bits .f32)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Bits)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x256x1024.Idx → Elt Bits .f32)) K => by
    unfold owns
    rw [cc0_flash_diff_eq_skeleton]; unfold cc0_flash_diff_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

end Cert.Kernel2.Diff

end
-- ==== Proof.DiffBits.Ok0.lean ====
module

public import proofs.«01_k».proof.Proof.DiffBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2.Diff

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_0 k0_off1_inb numel1_S1 (pfN (⟨0, by omega⟩ : Fin 1)) i a + 1) * S1x2x1024x128.size a ≤ S2x8x8192x128.size a := by decide +kernel
theorem ok_pfN_0_0 : (∀ i : grid0.Coords, ∃ h : (∀ a, (cc0_transform_0 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_0 k0_off1_inb numel1_S1 (pfN (⟨0, by omega⟩ : Fin 1)) i) h).WholeWords (EltTy.packing .bf16)) := fun i => ⟨ok_pfN_0_0_inb i, .inr (Affine.block_words_dvd (s := S2x8x8192x128) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1x2x1024x128.size a ≤ S2x8x8192x128.size a := by decide +kernel
theorem ok_pfN_0_1 : (∀ i : grid0.Coords, ∃ h : (∀ a, (cc0_transform_1 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_1 k0_off1_inb numel1_S1 (pfN (⟨0, by omega⟩ : Fin 1)) i) h).WholeWords (EltTy.packing .bf16)) := fun i => ⟨ok_pfN_0_1_inb i, .inr (Affine.block_words_dvd (s := S2x8x8192x128) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1x256x1024.size a ≤ S2x512x8192.size a := by decide +kernel
theorem ok_pfN_0_2 : (∀ i : grid0.Coords, ∃ h : (∀ a, (cc0_transform_2 k0_off1_inb numel1_S1 (pfN (⟨0, by omega⟩ : Fin 1)) i a + 1) * S1x256x1024.size a ≤ S2x512x8192.size a), EltTy.bits .bf16 = 32 ∨ (Rect.block (s := S2x512x8192) S1x256x1024.size (cc0_transform_2 k0_off1_inb numel1_S1 (pfN (⟨0, by omega⟩ : Fin 1)) i) h).WholeWords (EltTy.packing .bf16)) := fun i => ⟨ok_pfN_0_2_inb i, .inr (Affine.block_words_dvd (s := S2x512x8192) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1x256x1024.size a ≤ S2x1024x8192.size a := by decide +kernel
theorem ok_pfN_0_3 : (∀ i : grid0.Coords, ∃ h : (∀ a, (cc0_transform_3 k0_off1_inb numel1_S1 (pfN (⟨0, by omega⟩ : Fin 1)) i a + 1) * S1x256x1024.size a ≤ S2x1024x8192.size a), EltTy.bits .f32 = 32 ∨ (Rect.block (s := S2x1024x8192) S1x256x1024.size (cc0_transform_3 k0_off1_inb numel1_S1 (pfN (⟨0, by omega⟩ : Fin 1)) i) h).WholeWords (EltTy.packing .f32)) := fun i => ⟨ok_pfN_0_3_inb i, .inl rfl⟩
theorem ok_pfN_0 : ok0 (F := Bits) (pfN (⟨0, by omega⟩ : Fin 1)) := ⟨ok_pfN_0_0, ok_pfN_0_1, ok_pfN_0_2, ok_pfN_0_3⟩

end Cert.Kernel2.Diff

end
-- ==== Proof.DiffBits.Cfg.lean ====
module

public import proofs.«01_k».proof.Proof.DiffBits.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2.Diff

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

/-- The side condition holds of the pinned tables at EVERY member (the grid they make one that runs, every block
    inside its array): decided member by member in a module of its own, matched here. -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 288 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1x2x1024x128 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1x2x1024x128 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1x256x1024 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S1x256x1024 .f32 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .eq (Scalar.andi (View.readAt (Elt Bits) (tbM0_2).view (Rect.unit (s := S36) (k0_off1 (crd ch t)) S1.size (k0_off1_inb (crd ch t))).toLoadRect (pinT_2 ch) (Shape.Idx.first (numel1_S1.symm ▸ Nat.one_pos))) 1#32) 0#32)) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

set_option backward.proofsInPublic true in
/-- Whether output 3 holds junk BEFORE each position `1 ‥ N` of member `ch`'s grid — nothing stored into it since
    its last write-back —: the classifier's table (written back at the point before, or idle there and junk
    before it) as a bitmask, bit `n` for position `n + 1`, which `frTab0_3_step` checks against the pipeline's
    own recursion point by point (a bit test is one kernel step; a list walk or the recursion, hundreds). -/
def frMask0_3 : Fin 1 → ℕ
  | ⟨0, _⟩ => 0xffffffffffffffffffffffffffffffffffffffffffffffffffffffffffffffffffffffff
  | ⟨_ + 1, h⟩ => absurd h (by omega)
/-- `(cfgA ch).fresh 3` TABULATED (TableIdle.lean `Cfg.fresh_tab`): true before the first point, then the table. -/
def frTab0_3 : ℕ → Bool
  | 0 => true
  | n + 1 => (frMask0_3 ch).testBit n

end Cert.Kernel2.Diff

end
-- ==== Proof.DiffBits.Facts.lean ====
module

public import proofs.«01_k».proof.Proof.DiffBits.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2.Diff

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- The word of the table of key blocks that the body reads at point `t`. -/
abbrev kw (ch : Fin 1) (t : Fin (cfgA ch).N) := (View.readAt (Elt Bits) (tbM0_1).view (Rect.unit (s := S36) (k0_off1 (crd ch t)) S1.size (k0_off1_inb (crd ch t))).toLoadRect (pinT_1 ch) (Shape.Idx.first (numel1_S1.symm ▸ Nat.one_pos)))
/-- The word of the table of flags that the body reads at point `t`. -/
abbrev fw (ch : Fin 1) (t : Fin (cfgA ch).N) := (View.readAt (Elt Bits) (tbM0_2).view (Rect.unit (s := S36) (k0_off1 (crd ch t)) S1.size (k0_off1_inb (crd ch t))).toLoadRect (pinT_2 ch) (Shape.Idx.first (numel1_S1.symm ▸ Nat.one_pos)))
/-- What path A needs of the words the body reads. -/
abbrev Hy_A (ch : Fin 1) (t : Fin (cfgA ch).N) : Prop :=
  ((Scalar.cmpi .ne (Scalar.extui (Scalar.cmpi .eq (kw ch t) 0#32)) 0#32) = 1#1) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path B needs of the words the body reads. -/
abbrev Hy_B (ch : Fin 1) (t : Fin (cfgA ch).N) : Prop :=
  ((Scalar.cmpi .ne (Scalar.extui (Scalar.cmpi .eq (kw ch t) 0#32)) 0#32) = 1#1) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))
/-- What path C needs of the words the body reads. -/
abbrev Hy_C (ch : Fin 1) (t : Fin (cfgA ch).N) : Prop :=
  (¬((Scalar.cmpi .ne (Scalar.extui (Scalar.cmpi .eq (kw ch t) 0#32)) 0#32) = 1#1)) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path D needs of the words the body reads. -/
abbrev Hy_D (ch : Fin 1) (t : Fin (cfgA ch).N) : Prop :=
  (¬((Scalar.cmpi .ne (Scalar.extui (Scalar.cmpi .eq (kw ch t) 0#32)) 0#32) = 1#1)) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → Hy_A ch t)
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → Hy_B ch t)
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → Hy_C ch t)
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → Hy_D ch t)
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Kernel2.Diff

end
-- ==== Proof.DiffIdeal.Pins.lean ====
module

public import proofs.«01_k».proof.Defs
public import proofs.«01_k».proof.Proof.Gen.Kernel2Ideal
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev tbM0_2 : Memref sig .tc .smem S36 .i32 := Memref.whole main_c_1
abbrev scM0_0 : Memref sig .tc .vmem S2x1x1024 .f32 := Memref.whole cc0_scratch0
abbrev scM0_1 : Memref sig .tc .vmem S2x1x1024 .f32 := Memref.whole cc0_scratch1
abbrev scM0_2 : Memref sig .tc .vmem S2x128x1024 .f32 := Memref.whole cc0_scratch2

/-! ## The pinned words: the tables and the steering windows' arrays, closed forms of the schedule index `ch` -/

/- THE SCHEDULE INDEX the whole certificate is stated for: member `ch` of the family of 1 . Every definition below that depends on the pinned words takes it first. -/
variable (ch : Fin 1)

/-- Prefetched table 0 (`main_c`, [36]) at member `ch`: the family TRACED. -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Prefetched table 1 (`main_c_0`, [36]) at member `ch`: the family TRACED. -/
def pinT_1 (ch : Fin 1) : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

/-- Prefetched table 2 (`main_c_1`, [36]) at member `ch`: the family TRACED. -/
def pinT_2 (ch : Fin 1) : S36.Idx → BitVec 32 := fun x => (([3#32, 0#32, 3#32, 0#32, 0#32, 3#32, 0#32, 0#32, 0#32, 3#32, 0#32, 0#32, 0#32, 0#32, 3#32, 0#32, 0#32, 0#32, 0#32, 0#32, 3#32, 0#32, 0#32, 0#32, 0#32, 0#32, 0#32, 3#32, 0#32, 0#32, 0#32, 0#32, 0#32, 0#32, 0#32, 3#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨2, _⟩ => pinT_2 ch | ⟨_ + 3, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The program's three literal tables are the words above. -/
theorem lit0_eq (x : S36.Idx) : lit0 (S36.rowMajor x) = pinT_0 ch x := by
  revert x; revert ch; decide +kernel
theorem lit1_eq (x : S36.Idx) : lit1 (S36.rowMajor x) = pinT_1 ch x := by
  revert x; revert ch; decide +kernel
theorem lit2_eq (x : S36.Idx) : lit2 (S36.rowMajor x) = pinT_2 ch x := by
  revert x; revert ch; decide +kernel

end Cert.Kernel2Ideal.Diff

end
-- ==== Proof.DiffIdeal.Runs.lean ====
module

public import proofs.«01_k».proof.Proof.Gen.Kernel2Ideal.Skeleton
public import proofs.«01_k».proof.Proof.DiffIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- The word of the table of key blocks that the body reads at grid coordinates `i`. -/
abbrev rd1 (i : grid0.Coords) (T1 : S36.Idx → Elt Ideal .i32) := (View.readAt (Elt Ideal) (tbM0_1).view (Rect.unit (s := S36) (k0_off1 i) S1.size (k0_off1_inb i)).toLoadRect T1 (Shape.Idx.first (numel1_S1.symm ▸ Nat.one_pos)))
/-- The word of the table of flags that the body reads at grid coordinates `i`. -/
abbrev rd2 (i : grid0.Coords) (T2 : S36.Idx → Elt Ideal .i32) := (View.readAt (Elt Ideal) (tbM0_2).view (Rect.unit (s := S36) (k0_off1 i) S1.size (k0_off1_inb i)).toLoadRect T2 (Shape.Idx.first (numel1_S1.symm ▸ Nat.one_pos)))

/-- One staging buffer of output window 3, through which its contents are stated (`View.read_writes_of_cover`). -/
abbrev VO0_3 : View sig .tc .vmem S1x256x1024 .f32 := (Memref.whole cc0_stg3_0 : Memref sig .tc .vmem S1x256x1024 .f32).view

set_option backward.proofsInPublic true in
set_option maxHeartbeats 8000000 in
/-- PATH A (points 0, 36, … 252: 8 of 288): what the body leaves — per stored output its pieces (last first), per scratch its
    contents — WITH the proof that, on whole staging memrefs, from the inputs at their blocks, the tables, the outputs
    (3: stored) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Ideal) S1x256x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_diff_eq_skeleton]; unfold cc0_flash_diff_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path A's pieces for output 3 tile its block (2 stores of `S1x128x1024`: the kernel evaluates the tiling, `Piece.tiledL`). -/
theorem cover0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x256x1024.Idx) :
    ∃ pc ∈ (kernelRun0_A c i arg6 harg6 arg7 harg7 arg8 harg8 arg9 harg9 T0 T1 T2 x0 x1 x2 hc0 hc1 hc2 k0_h4).1, y ∈ pc.1.set :=
  View.cover_of_tiledL (kernelRun0_A c i arg6 harg6 arg7 harg7 arg8 harg8 arg9 harg9 T0 T1 T2 x0 x1 x2 hc0 hc1 hc2 k0_h4).1 S1x128x1024.size (by sl_kernel_rfl) y

/-- What path A leaves in output 3's staging buffer: its pieces read back over junk. -/
def out0_A_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (hc0 : (Scalar.cmpi .ne (Scalar.extui (Scalar.cmpi .eq (rd1 i T1) 0#32)) 0#32) = 1#1) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x256x1024.Idx → Elt Ideal .f32) :=
  VO0_3.read (Elt Ideal) (VO0_3.writes (Elt Ideal) VO0_3.junk (kernelRun0_A c i arg6 harg6 arg7 harg7 arg8 harg8 arg9 harg9 T0 T1 T2 x0 x1 x2 hc0 hc1 hc2 k0_h4).1)

set_option backward.proofsInPublic true in
set_option maxHeartbeats 8000000 in
/-- PATH B (points 1, 3, … 280: 56 of 288): what the body leaves — per stored output its pieces (last first), per scratch its
    contents — WITH the proof that, on whole staging memrefs, from the inputs at their blocks, the tables, the outputs
    (3: idle) and the scratches (0: covered, 1: covered, 2: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (hc0 : (Scalar.cmpi .ne (Scalar.extui (Scalar.cmpi .eq (rd1 i T1) 0#32)) 0#32) = 1#1) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S1x256x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x256x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0_flash_diff_eq_skeleton]; unfold cc0_flash_diff_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

set_option backward.proofsInPublic true in
set_option maxHeartbeats 8000000 in
/-- PATH C (points 2, 5, … 287: 56 of 288): what the body leaves — per stored output its pieces (last first), per scratch its
    contents — WITH the proof that, on whole staging memrefs, from the inputs at their blocks, the tables, the outputs
    (3: stored) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) :
    Σ' (out0 : List (View.Piece (Elt Ideal) S1x256x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, _, fun K => by
    unfold owns
    rw [cc0_flash_diff_eq_skeleton]; unfold cc0_flash_diff_skel
    iintro ⟨H0, H1, H2, HT0, HT1, HT2, ⟨%d3, %f3, -, HO3⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = ¬(Scalar.cmpi = _); exact hc1) | (guard_target = Scalar.cmpi = _; exact hc2) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]; · iexists _; iexact HO3
    isplitl [HS0]; · iexact HS0
    isplitl [HS1]; · iexact HS1
    iexact HS2⟩

/-- Path C's pieces for output 3 tile its block (2 stores of `S1x128x1024`: the kernel evaluates the tiling, `Piece.tiledL`). -/
theorem cover0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) (y : S1x256x1024.Idx) :
    ∃ pc ∈ (kernelRun0_C c i arg6 harg6 arg7 harg7 arg8 harg8 arg9 harg9 T0 T1 T2 x0 x1 x2 xa0 xa1 xa2 hc0 hc1 hc2 k0_h4).1, y ∈ pc.1.set :=
  View.cover_of_tiledL (kernelRun0_C c i arg6 harg6 arg7 harg7 arg8 harg8 arg9 harg9 T0 T1 T2 x0 x1 x2 xa0 xa1 xa2 hc0 hc1 hc2 k0_h4).1 S1x128x1024.size (by sl_kernel_rfl) y

/-- What path C leaves in output 3's staging buffer: its pieces read back over junk. -/
def out0_C_3 (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : ¬((Scalar.cmpi .ne (Scalar.extui (Scalar.cmpi .eq (Scalar.andi (rd2 i T2) 1#32) 0#32)) 0#32) = 1#1)) (hc2 : (Scalar.cmpi .ne (Scalar.extui (Scalar.cmpi .eq (Scalar.andi (rd2 i T2) 1#32) 1#32)) 0#32) = 1#1) (k0_h4 : k0_cond4 (rd2 i T2) = 1#1) : (S1x256x1024.Idx → Elt Ideal .f32) :=
  VO0_3.read (Elt Ideal) (VO0_3.writes (Elt Ideal) VO0_3.junk (kernelRun0_C c i arg6 harg6 arg7 harg7 arg8 harg8 arg9 harg9 T0 T1 T2 x0 x1 x2 xa0 xa1 xa2 hc0 hc1 hc2 k0_h4).1)

set_option backward.proofsInPublic true in
set_option maxHeartbeats 8000000 in
/-- PATH D (points 4, 7, … 286: 168 of 288): what the body leaves — per stored output its pieces (last first), per scratch its
    contents — WITH the proof that, on whole staging memrefs, from the inputs at their blocks, the tables, the outputs
    (3: idle) and the scratches (0: carried, 1: carried, 2: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg6 : Memref sig .tc .vmem S1x2x1024x128 .bf16) (harg6 : arg6.IsWhole) (arg7 : Memref sig .tc .vmem S1x2x1024x128 .bf16) (harg7 : arg7.IsWhole) (arg8 : Memref sig .tc .vmem S1x256x1024 .bf16) (harg8 : arg8.IsWhole) (arg9 : Memref sig .tc .vmem S1x256x1024 .f32) (harg9 : arg9.IsWhole) (T0 : (S36.Idx → Elt Ideal .i32)) (T1 : (S36.Idx → Elt Ideal .i32)) (T2 : (S36.Idx → Elt Ideal .i32))
     (x0 : (S1x2x1024x128.Idx → Elt Ideal .bf16)) (x1 : (S1x2x1024x128.Idx → Elt Ideal .bf16)) (x2 : (S1x256x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (rd1 i T1) 0#32)) 0#32) = 1#1)) (hc1 : (Scalar.cmpi .ne (Scalar.extui (Scalar.cmpi .eq (Scalar.andi (rd2 i T2) 1#32) 0#32)) 0#32) = 1#1) (hc2 : ¬((Scalar.cmpi .ne (Scalar.extui (Scalar.cmpi .eq (Scalar.andi (rd2 i T2) 1#32) 1#32)) 0#32) = 1#1)) (k0_h4 : ¬(k0_cond4 (rd2 i T2) = 1#1)) :
    Σ' (out0 : Buf (Elt Ideal) ((c : Thread nD τ).loc cc0_scratch0)) (out1 : Buf (Elt Ideal) ((c : Thread nD τ).loc cc0_scratch1)), { out2 : Buf (Elt Ideal) ((c : Thread nD τ).loc cc0_scratch2) //
      ∀ (y3 : (S1x256x1024.Idx → Elt Ideal .f32)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg9 fullShare y3
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg6.view.loc (c : Thread nD τ) ↦[arg6.view.set]{fullShare} arg6.view.rep x0)
              ∗ (arg7.view.loc (c : Thread nD τ) ↦[arg7.view.set]{fullShare} arg7.view.rep x1)
              ∗ (arg8.view.loc (c : Thread nD τ) ↦[arg8.view.set]{fullShare} arg8.view.rep x2)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg9 fullShare y3
              ∗ (scM0_0.view.loc (c : Thread nD τ) ↦{fullShare} out0)
              ∗ (scM0_1.view.loc (c : Thread nD τ) ↦{fullShare} out1)
              ∗ (scM0_2.view.loc (c : Thread nD τ) ↦{fullShare} out2)) -∗ K ⟨⟩))
          ⊢ wp frame (wpE (defs₀ (F := Ideal)) Variants.none c none) Set.univ (cc0_flash_diff i tbM0_0 (Memref.isWhole_whole _) tbM0_1 (Memref.isWhole_whole _) tbM0_2 (Memref.isWhole_whole _) arg6 harg6 arg7 harg7 arg8 harg8 arg9 harg9 scM0_0 (Memref.isWhole_whole _) scM0_1 (Memref.isWhole_whole _) scM0_2 (Memref.isWhole_whole _)) K } :=
  ⟨_, _, _, fun (y3 : (S1x256x1024.Idx → Elt Ideal .f32)) K => by
    unfold owns
    rw [cc0_flash_diff_eq_skeleton]; unfold cc0_flash_diff_skel
    iintro ⟨H0, H1, H2, HT0, HT1, HT2, ⟨%f3, %hf3, HO3⟩, HS0, HS1, HS2, Hk⟩
    obtain rfl := harg9.eq_unread hf3
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    have hT2 : tbM0_2.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; · ipureintro; exact harg9.read_unread _
      iexact HO3
    isplitl [HS0]; · iexact HS0
    isplitl [HS1]; · iexact HS1
    iexact HS2⟩

end Cert.Kernel2Ideal.Diff

end
-- ==== Proof.DiffIdeal.Ok0.lean ====
module

public import proofs.«01_k».proof.Proof.DiffIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_0 k0_off1_inb numel1_S1 (pfN (⟨0, by omega⟩ : Fin 1)) i a + 1) * S1x2x1024x128.size a ≤ S2x8x8192x128.size a := by decide +kernel
theorem ok_pfN_0_0 : (∀ i : grid0.Coords, ∃ h : (∀ a, (cc0_transform_0 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_0 k0_off1_inb numel1_S1 (pfN (⟨0, by omega⟩ : Fin 1)) i) h).WholeWords (EltTy.packing .bf16)) := fun i => ⟨ok_pfN_0_0_inb i, .inr (Affine.block_words_dvd (s := S2x8x8192x128) (p := EltTy.packing .bf16) (by decide) (by decide))⟩
theorem ok_pfN_0_1_inb : ∀ i : grid0.Coords, ∀ a, (cc0_transform_1 k0_off1_inb numel1_S1 (pfN (⟨0, by omega⟩ : Fin 1)) i a + 1) * S1x2x1024x128.size a ≤ S2x8x8192x128.size a := by decide +kernel
theorem ok_pfN_0_1 : (∀ i : grid0.Coords, ∃ h : (∀ a, (cc0_transform_1 k0_off1_inb numel1_S1 (pfN (⟨0, by omega⟩ : Fin 1)) i a + 1) * S1x2x1024x128.size a ≤ S2x8x8192x128.size a), EltTy.bits .bf16 = 32 ∨ (Rect.block (s := S2x8x8192x128) S1x2x1024x128.size (cc0_transform_1 k0_off1_inb numel1_S1 (pfN (⟨0, by omega⟩ : Fin 1)) i) h).WholeWords (EltTy.packing .bf16)) := fun i => ⟨ok_pfN_0_1_inb i, .inr (Affine.block_words_dvd (s := S2x8x8192x128) (p := EltTy.packing .bf16) (by decide) (by decide))⟩
theorem ok_pfN_0_2_inb : ∀ i : grid0.Coords, ∀ a, (cc0_transform_2 k0_off1_inb numel1_S1 (pfN (⟨0, by omega⟩ : Fin 1)) i a + 1) * S1x256x1024.size a ≤ S2x512x8192.size a := by decide +kernel
theorem ok_pfN_0_2 : (∀ i : grid0.Coords, ∃ h : (∀ a, (cc0_transform_2 k0_off1_inb numel1_S1 (pfN (⟨0, by omega⟩ : Fin 1)) i a + 1) * S1x256x1024.size a ≤ S2x512x8192.size a), EltTy.bits .bf16 = 32 ∨ (Rect.block (s := S2x512x8192) S1x256x1024.size (cc0_transform_2 k0_off1_inb numel1_S1 (pfN (⟨0, by omega⟩ : Fin 1)) i) h).WholeWords (EltTy.packing .bf16)) := fun i => ⟨ok_pfN_0_2_inb i, .inr (Affine.block_words_dvd (s := S2x512x8192) (p := EltTy.packing .bf16) (by decide) (by decide))⟩
theorem ok_pfN_0_3_inb : ∀ i : grid0.Coords, ∀ a, (cc0_transform_3 k0_off1_inb numel1_S1 (pfN (⟨0, by omega⟩ : Fin 1)) i a + 1) * S1x256x1024.size a ≤ S2x1024x8192.size a := by decide +kernel
theorem ok_pfN_0_3 : (∀ i : grid0.Coords, ∃ h : (∀ a, (cc0_transform_3 k0_off1_inb numel1_S1 (pfN (⟨0, by omega⟩ : Fin 1)) i a + 1) * S1x256x1024.size a ≤ S2x1024x8192.size a), EltTy.bits .f32 = 32 ∨ (Rect.block (s := S2x1024x8192) S1x256x1024.size (cc0_transform_3 k0_off1_inb numel1_S1 (pfN (⟨0, by omega⟩ : Fin 1)) i) h).WholeWords (EltTy.packing .f32)) := fun i => ⟨ok_pfN_0_3_inb i, .inl rfl⟩
theorem ok_pfN_0 : ok0 (F := Ideal) (pfN (⟨0, by omega⟩ : Fin 1)) := ⟨ok_pfN_0_0, ok_pfN_0_1, ok_pfN_0_2, ok_pfN_0_3⟩

end Cert.Kernel2Ideal.Diff

end
-- ==== Proof.DiffIdeal.Cfg.lean ====
module

public import proofs.«01_k».proof.Proof.DiffIdeal.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

/-- The side condition holds of the pinned tables at EVERY member (the grid they make one that runs, every block
    inside its array): decided member by member in a module of its own, matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 288 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S1x2x1024x128 .bf16 := spec0_0.stage ((cfgA ch).slots t (0 : Fin 4))
abbrev hs0_0 (t : Fin (cfgA ch).N) : (ms0_0 ch t).IsWhole := hstage0_0 (((cfgA ch).slots t (0 : Fin 4)).cast nbuf0_0)
abbrev ms0_1 (t : Fin (cfgA ch).N) : Memref sig .tc .vmem S1x2x1024x128 .bf16 := spec0_1.stage ((cfgA ch).slots t (1 : Fin 4))
abbrev hs0_1 (t : Fin (cfgA ch).N) : (ms0_1 ch t).IsWhole := hstage0_1 (((cfgA ch).slots t (1 : Fin 4)).cast nbuf0_1)
abbrev ms0_2 (t : Fin (cfgA ch).N) : Memref sig .tc .vmem S1x256x1024 .bf16 := spec0_2.stage ((cfgA ch).slots t (2 : Fin 4))
abbrev hs0_2 (t : Fin (cfgA ch).N) : (ms0_2 ch t).IsWhole := hstage0_2 (((cfgA ch).slots t (2 : Fin 4)).cast nbuf0_2)
abbrev ms0_3 (t : Fin (cfgA ch).N) : Memref sig .tc .vmem S1x256x1024 .f32 := spec0_3.stage ((cfgA ch).slots t (3 : Fin 4))
abbrev hs0_3 (t : Fin (cfgA ch).N) : (ms0_3 ch t).IsWhole := hstage0_3 (((cfgA ch).slots t (3 : Fin 4)).cast nbuf0_3)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .eq (Scalar.andi (View.readAt (Elt Ideal) (tbM0_2).view (Rect.unit (s := S36) (k0_off1 (crd ch t)) S1.size (k0_off1_inb (crd ch t))).toLoadRect (pinT_2 ch) (Shape.Idx.first (numel1_S1.symm ▸ Nat.one_pos))) 1#32) 0#32)) 0#32) = 1#1

/-- Whether scratch 0 (`cc0_scratch0`) holds nothing a point has determined, before position `n`: until a path that stores it
    whole first (A, B) has run. -/
def sfresh0_0 : ℕ → Bool
  | 0 => true
  | n + 1 => if h : n < (cfgA ch).N then (if P0_0 ch ⟨n, h⟩ then (if P0_1 ch ⟨n, h⟩ then false else false) else (if P0_1 ch ⟨n, h⟩ then sfresh0_0 n else sfresh0_0 n)) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B) has run. -/
def sfresh0_1 : ℕ → Bool
  | 0 => true
  | n + 1 => if h : n < (cfgA ch).N then (if P0_0 ch ⟨n, h⟩ then (if P0_1 ch ⟨n, h⟩ then false else false) else (if P0_1 ch ⟨n, h⟩ then sfresh0_1 n else sfresh0_1 n)) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B) has run. -/
def sfresh0_2 : ℕ → Bool
  | 0 => true
  | n + 1 => if h : n < (cfgA ch).N then (if P0_0 ch ⟨n, h⟩ then (if P0_1 ch ⟨n, h⟩ then false else false) else (if P0_1 ch ⟨n, h⟩ then sfresh0_2 n else sfresh0_2 n)) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

set_option backward.proofsInPublic true in
/-- Whether output 3 holds junk BEFORE each position `1 ‥ N` of member `ch`'s grid — nothing stored into it since
    its last write-back —: the classifier's table (written back at the point before, or idle there and junk
    before it) as a bitmask, bit `n` for position `n + 1`, which `frTab0_3_step` checks against the pipeline's
    own recursion point by point (a bit test is one kernel step; a list walk or the recursion, hundreds). -/
def frMask0_3 : Fin 1 → ℕ
  | ⟨0, _⟩ => 0xffffffffffffffffffffffffffffffffffffffffffffffffffffffffffffffffffffffff
  | ⟨_ + 1, h⟩ => absurd h (by omega)
/-- `(cfgA ch).fresh 3` TABULATED (TableIdle.lean `Cfg.fresh_tab`): true before the first point, then the table. -/
def frTab0_3 : ℕ → Bool
  | 0 => true
  | n + 1 => (frMask0_3 ch).testBit n

end Cert.Kernel2Ideal.Diff

end
-- ==== Proof.DiffIdeal.Facts.lean ====
module

public import proofs.«01_k».proof.Proof.DiffIdeal.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- The word of the table of key blocks that the body reads at point `t`. -/
abbrev kw (ch : Fin 1) (t : Fin (cfgA ch).N) := (View.readAt (Elt Ideal) (tbM0_1).view (Rect.unit (s := S36) (k0_off1 (crd ch t)) S1.size (k0_off1_inb (crd ch t))).toLoadRect (pinT_1 ch) (Shape.Idx.first (numel1_S1.symm ▸ Nat.one_pos)))
/-- The word of the table of flags that the body reads at point `t`. -/
abbrev fw (ch : Fin 1) (t : Fin (cfgA ch).N) := (View.readAt (Elt Ideal) (tbM0_2).view (Rect.unit (s := S36) (k0_off1 (crd ch t)) S1.size (k0_off1_inb (crd ch t))).toLoadRect (pinT_2 ch) (Shape.Idx.first (numel1_S1.symm ▸ Nat.one_pos)))
/-- What path A needs of the words the body reads. -/
abbrev Hy_A (ch : Fin 1) (t : Fin (cfgA ch).N) : Prop :=
  ((Scalar.cmpi .ne (Scalar.extui (Scalar.cmpi .eq (kw ch t) 0#32)) 0#32) = 1#1) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path B needs of the words the body reads. -/
abbrev Hy_B (ch : Fin 1) (t : Fin (cfgA ch).N) : Prop :=
  ((Scalar.cmpi .ne (Scalar.extui (Scalar.cmpi .eq (kw ch t) 0#32)) 0#32) = 1#1) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))
/-- What path C needs of the words the body reads. -/
abbrev Hy_C (ch : Fin 1) (t : Fin (cfgA ch).N) : Prop :=
  (¬((Scalar.cmpi .ne (Scalar.extui (Scalar.cmpi .eq (kw ch t) 0#32)) 0#32) = 1#1)) ∧ ((¬((Scalar.cmpi .ne (Scalar.extui (Scalar.cmpi .eq (Scalar.andi (fw ch t) 1#32) 0#32)) 0#32) = 1#1)) ∧ (((Scalar.cmpi .ne (Scalar.extui (Scalar.cmpi .eq (Scalar.andi (fw ch t) 1#32) 1#32)) 0#32) = 1#1) ∧ ((k0_cond4 (fw ch t) = 1#1) ∧ (True))))
/-- What path D needs of the words the body reads. -/
abbrev Hy_D (ch : Fin 1) (t : Fin (cfgA ch).N) : Prop :=
  (¬((Scalar.cmpi .ne (Scalar.extui (Scalar.cmpi .eq (kw ch t) 0#32)) 0#32) = 1#1)) ∧ (((Scalar.cmpi .ne (Scalar.extui (Scalar.cmpi .eq (Scalar.andi (fw ch t) 1#32) 0#32)) 0#32) = 1#1) ∧ ((¬((Scalar.cmpi .ne (Scalar.extui (Scalar.cmpi .eq (Scalar.andi (fw ch t) 1#32) 1#32)) 0#32) = 1#1)) ∧ ((¬(k0_cond4 (fw ch t) = 1#1)) ∧ (True))))

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, frTab0_3_step, hyps0_A, sched0_A, hyps0_B, sched0_B, hyps0_C, sched0_C, hyps0_D, sched0_D
  (sfrTab0_0 ch (t.val + 1) = (if P0_0 ch t then (if P0_1 ch t then false else false) else (if P0_1 ch t then sfrTab0_0 ch t.val else sfrTab0_0 ch t.val)))
  ∧ (sfrTab0_1 ch (t.val + 1) = (if P0_0 ch t then (if P0_1 ch t then false else false) else (if P0_1 ch t then sfrTab0_1 ch t.val else sfrTab0_1 ch t.val)))
  ∧ (sfrTab0_2 ch (t.val + 1) = (if P0_0 ch t then (if P0_1 ch t then false else false) else (if P0_1 ch t then sfrTab0_2 ch t.val else sfrTab0_2 ch t.val)))
  ∧ (frTab0_3 ch (t.val + 1) = (((cfgA ch).win (3 : Fin 4)).flush t || ((cfgA ch).idle (3 : Fin 4) ((cfgA ch).grid.coords t) && frTab0_3 ch t.val)))
  ∧ (P0_0 ch t → ¬P0_1 ch t → Hy_A ch t)
  ∧ (P0_0 ch t → ¬P0_1 ch t → (cfgA ch).idle (3 : Fin 4) ((cfgA ch).grid.coords t) = false ∧ ((cfgA ch).win (3 : Fin 4)).flush t = true ∧ frTab0_3 ch t.val = true ∧ sfrTab0_0 ch (t.val + 1) = false ∧ sfrTab0_1 ch (t.val + 1) = false ∧ sfrTab0_2 ch (t.val + 1) = false)
  ∧ (P0_0 ch t → P0_1 ch t → Hy_B ch t)
  ∧ (P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → ¬P0_1 ch t → Hy_C ch t)
  ∧ (¬P0_0 ch t → ¬P0_1 ch t → (cfgA ch).idle (3 : Fin 4) ((cfgA ch).grid.coords t) = false ∧ ((cfgA ch).win (3 : Fin 4)).flush t = true ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)
  ∧ (¬P0_0 ch t → P0_1 ch t → Hy_D ch t)
  ∧ (¬P0_0 ch t → P0_1 ch t → (cfgA ch).idle (3 : Fin 4) ((cfgA ch).grid.coords t) = true ∧ ((cfgA ch).win (3 : Fin 4)).flush t = false ∧ frTab0_3 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance)))))))))))

end Cert.Kernel2Ideal.Diff

end
-- ==== Proof.DiffIdeal.Facts0.lean ====
module

public import proofs.«01_k».proof.Proof.DiffIdeal.Facts

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 36 → FactsAt (⟨0, by omega⟩ : Fin 1) t := by decide +kernel
theorem allFacts_0_1 : ∀ t : Fin (cfgA (⟨0, by omega⟩ : Fin 1)).N, 36 ≤ t.val → t.val < 72 → FactsAt (⟨0, by omega⟩ : Fin 1) t := by decide +kernel
theorem allFacts_0_2 : ∀ t : Fin (cfgA (⟨0, by omega⟩ : Fin 1)).N, 72 ≤ t.val → t.val < 108 → FactsAt (⟨0, by omega⟩ : Fin 1) t := by decide +kernel
theorem allFacts_0_3 : ∀ t : Fin (cfgA (⟨0, by omega⟩ : Fin 1)).N, 108 ≤ t.val → t.val < 144 → FactsAt (⟨0, by omega⟩ : Fin 1) t := by decide +kernel
theorem allFacts_0_4 : ∀ t : Fin (cfgA (⟨0, by omega⟩ : Fin 1)).N, 144 ≤ t.val → t.val < 180 → FactsAt (⟨0, by omega⟩ : Fin 1) t := by decide +kernel
theorem allFacts_0_5 : ∀ t : Fin (cfgA (⟨0, by omega⟩ : Fin 1)).N, 180 ≤ t.val → t.val < 216 → FactsAt (⟨0, by omega⟩ : Fin 1) t := by decide +kernel
theorem allFacts_0_6 : ∀ t : Fin (cfgA (⟨0, by omega⟩ : Fin 1)).N, 216 ≤ t.val → t.val < 252 → FactsAt (⟨0, by omega⟩ : Fin 1) t := by decide +kernel
theorem allFacts_0_7 : ∀ t : Fin (cfgA (⟨0, by omega⟩ : Fin 1)).N, 252 ≤ t.val → t.val < 288 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 36 with h1 | h1; · exact allFacts_0_0 t h0 h1
  rcases Nat.lt_or_ge t.val 72 with h2 | h2; · exact allFacts_0_1 t h1 h2
  rcases Nat.lt_or_ge t.val 108 with h3 | h3; · exact allFacts_0_2 t h2 h3
  rcases Nat.lt_or_ge t.val 144 with h4 | h4; · exact allFacts_0_3 t h3 h4
  rcases Nat.lt_or_ge t.val 180 with h5 | h5; · exact allFacts_0_4 t h4 h5
  rcases Nat.lt_or_ge t.val 216 with h6 | h6; · exact allFacts_0_5 t h5 h6
  rcases Nat.lt_or_ge t.val 252 with h7 | h7; · exact allFacts_0_6 t h6 h7
  exact allFacts_0_7 t h7 t.isLt

end Cert.Kernel2Ideal.Diff

end
-- ==== Proof.DiffIdeal.Flash.lean ====
module

public import proofs.«01_k».proof.Proof.DiffIdeal.Runs
public import proofs.«01_k».proof.Proof.DiffIdeal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel2Ideal.Diff

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else false) else (if P0_1 ch t then sfrTab0_0 ch t.val else sfrTab0_0 ch t.val)) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else false) else (if P0_1 ch t then sfrTab0_1 ch t.val else sfrTab0_1 ch t.val)) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else false) else (if P0_1 ch t then sfrTab0_2 ch t.val else sfrTab0_2 ch t.val)) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem frTab0_3_step : ∀ (ch : Fin 1) (t : Fin (cfgA ch).N),
    frTab0_3 ch (t.val + 1) = (((cfgA ch).win (3 : Fin 4)).flush t || ((cfgA ch).idle (3 : Fin 4) ((cfgA ch).grid.coords t) && frTab0_3 ch t.val)) := fun ch t => (allFacts ch t).2.2.2.1
theorem freshF0_3 (t : Fin (cfgA ch).N) : (cfgA ch).fresh (3 : Fin 4) t.val = frTab0_3 ch t.val :=
  Pipeline.Cfg.fresh_tab (cfgA ch) (3 : Fin 4) (frTab0_3 ch) rfl (frTab0_3_step ch) t.val (Nat.le_of_lt t.isLt)

/-- At a point of path A, the path's hypotheses hold of the words the body reads there (the pinned tables read,
    a pinned window's word AS the word `pinBlk ch t (r.idx x)`; the checks among them cited from `ChecksAt`). -/
theorem hypsR0_A : ∀ (ch : Fin 1) (t : Fin (cfgA ch).N), P0_0 ch t → ¬P0_1 ch t → Hy_A ch t := fun ch t => (allFacts ch t).2.2.2.2.1

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch (t.val + 1) = false ∧ sfresh0_1 ch (t.val + 1) = false ∧ sfresh0_2 ch (t.val + 1) = false := by
  intro ch t; rw [freshF0_3 ch t, sfreshS0_0 ch t, sfreshS0_1 ch t, sfreshS0_2 ch t]; exact (fun ch t => (allFacts ch t).2.2.2.2.2.1) ch t

/-- At a point of path B, the path's hypotheses hold of the words the body reads there (the pinned tables read,
    a pinned window's word AS the word `pinBlk ch t (r.idx x)`; the checks among them cited from `ChecksAt`). -/
theorem hypsR0_B : ∀ (ch : Fin 1) (t : Fin (cfgA ch).N), P0_0 ch t → P0_1 ch t → Hy_B ch t := fun ch t => (allFacts ch t).2.2.2.2.2.2.1

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.1) ch t

/-- At a point of path C, the path's hypotheses hold of the words the body reads there (the pinned tables read,
    a pinned window's word AS the word `pinBlk ch t (r.idx x)`; the checks among them cited from `ChecksAt`). -/
theorem hypsR0_C : ∀ (ch : Fin 1) (t : Fin (cfgA ch).N), ¬P0_0 ch t → ¬P0_1 ch t → Hy_C ch t := fun ch t => (allFacts ch t).2.2.2.2.2.2.2.2.1

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t →
    (cfgA ch).idle (3 : Fin 4) ((cfgA ch).grid.coords t) = false ∧ ((cfgA ch).win (3 : Fin 4)).flush t = true ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.1) ch t

/-- At a point of path D, the path's hypotheses hold of the words the body reads there (the pinned tables read,
    a pinned window's word AS the word `pinBlk ch t (r.idx x)`; the checks among them cited from `ChecksAt`). -/
theorem hypsR0_D : ∀ (ch : Fin 1) (t : Fin (cfgA ch).N), ¬P0_0 ch t → P0_1 ch t → Hy_D ch t := fun ch t => (allFacts ch t).2.2.2.2.2.2.2.2.2.2.1

/-- At a point of path D: the idle table, the write-backs and which buffers hold junk (decided over the
    freshness tables `frTab`/`sfrTab`, restated over `Cfg.fresh`/`sfresh` by their agreement). -/
theorem sched0_D : ∀ (ch : Fin 1) (t : Fin (cfgA ch).N), ¬P0_0 ch t → P0_1 ch t →
    (cfgA ch).idle (3 : Fin 4) ((cfgA ch).grid.coords t) = true ∧ ((cfgA ch).win (3 : Fin 4)).flush t = false ∧ (cfgA ch).fresh (3 : Fin 4) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false := by
  intro ch t; rw [freshF0_3 ch t, sfreshF0_0 ch t, sfreshS0_0 ch t, sfreshF0_1 ch t, sfreshS0_1 ch t, sfreshF0_2 ch t, sfreshS0_2 ch t]; exact (fun ch t => (allFacts ch t).2.2.2.2.2.2.2.2.2.2.2) ch t

/-! ## What the outputs and scratches hold after each point -/

/-- The type of what the body's buffers hold: the output block and the three scratches. -/
abbrev St (c : Dev nD) : Type := (S1x256x1024.Idx → Elt Ideal .f32) × Buf (Elt Ideal) ((c : Thread nD τ).loc cc0_scratch0) × Buf (Elt Ideal) ((c : Thread nD τ).loc cc0_scratch1) × Buf (Elt Ideal) ((c : Thread nD τ).loc cc0_scratch2)
/-- What path A leaves in the buffers. -/
abbrev st0_A (c : Dev nD) (t : Fin (cfgA ch).N) (prev : St c) (q0 : P0_0 ch t) (q1 : ¬P0_1 ch t) : St c :=
  (out0_A_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.1, (kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_A ch t q0 q1).1 (hypsR0_A ch t q0 q1).2.1 (hypsR0_A ch t q0 q1).2.2.1 (hypsR0_A ch t q0 q1).2.2.2.1).2.2.2.1)
/-- What path B leaves in the buffers. -/
abbrev st0_B (c : Dev nD) (t : Fin (cfgA ch).N) (prev : St c) (q0 : P0_0 ch t) (q1 : P0_1 ch t) : St c :=
  ((if (cfgA ch).fresh (3 : Fin 4) t.val then default else prev.1), (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.1, (kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) (hypsR0_B ch t q0 q1).1 (hypsR0_B ch t q0 q1).2.1 (hypsR0_B ch t q0 q1).2.2.1 (hypsR0_B ch t q0 q1).2.2.2.1).2.2.1)
/-- What path C leaves in the buffers. -/
abbrev st0_C (c : Dev nD) (t : Fin (cfgA ch).N) (prev : St c) (q0 : ¬P0_0 ch t) (q1 : ¬P0_1 ch t) : St c :=
  (out0_C_3 c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1).2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1).2.2.1, (kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_C ch t q0 q1).1 (hypsR0_C ch t q0 q1).2.1 (hypsR0_C ch t q0 q1).2.2.1 (hypsR0_C ch t q0 q1).2.2.2.1).2.2.2.1)
/-- What path D leaves in the buffers. -/
abbrev st0_D (c : Dev nD) (t : Fin (cfgA ch).N) (prev : St c) (q0 : ¬P0_0 ch t) (q1 : P0_1 ch t) : St c :=
  ((if (cfgA ch).fresh (3 : Fin 4) t.val then default else prev.1), (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) prev.2.1 prev.2.2.1 prev.2.2.2 (hypsR0_D ch t q0 q1).1 (hypsR0_D ch t q0 q1).2.1 (hypsR0_D ch t q0 q1).2.2.1 (hypsR0_D ch t q0 q1).2.2.2.1).2.2.1)

/-- ONE STEP of the trajectory: what the outputs' current buffers and the scratches hold after the body at point `t`
    (output 3, scratch 0, scratch 1, scratch 2), from what they held before (`prev`): the path the decisions select at `t`, its
    run's contents; an output the path leaves idle keeps what it held (junk — `default`, named by nothing — where fresh). -/
def step0 (c : Dev nD) (t : Fin (cfgA ch).N) (prev : St c) : St c :=
  if q0 : P0_0 ch t then
    if q1 : P0_1 ch t then
      st0_B ch m ρ c t prev q0 q1
    else
      st0_A ch m ρ c t prev q0 q1
  else
    if q1 : P0_1 ch t then
      st0_D ch m ρ c t prev q0 q1
    else
      st0_C ch m ρ c t prev q0 q1

/-- THE TRAJECTORY: after position `n`. -/
def traj0 (c : Dev nD) : (n : ℕ) → n < (cfgA ch).N → St c
  | 0, h => step0 ch m ρ c ⟨0, h⟩ (default, default, default, default)
  | n + 1, h => step0 ch m ρ c ⟨n + 1, h⟩ (traj0 c n (Nat.lt_of_succ_lt h))

/-- What they held BEFORE point `t` (junk before the first). -/
def prev0 (c : Dev nD) (t : Fin (cfgA ch).N) : St c :=
  if h : t.val = 0 then (default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : St c) (q0 : P0_0 ch t) (q1 : ¬P0_1 ch t) :
    step0 ch m ρ c t prev = st0_A ch m ρ c t prev q0 q1 := by
  unfold step0; simp only [dif_pos q0, dif_neg q1]

/-- `step0` at a point of path B. -/
theorem step0_B (c : Dev nD) (t : Fin (cfgA ch).N) (prev : St c) (q0 : P0_0 ch t) (q1 : P0_1 ch t) :
    step0 ch m ρ c t prev = st0_B ch m ρ c t prev q0 q1 := by
  unfold step0; simp only [dif_pos q0, dif_pos q1]

/-- `step0` at a point of path C. -/
theorem step0_C (c : Dev nD) (t : Fin (cfgA ch).N) (prev : St c) (q0 : ¬P0_0 ch t) (q1 : ¬P0_1 ch t) :
    step0 ch m ρ c t prev = st0_C ch m ρ c t prev q0 q1 := by
  unfold step0; simp only [dif_neg q0, dif_neg q1]

/-- `step0` at a point of path D. -/
theorem step0_D (c : Dev nD) (t : Fin (cfgA ch).N) (prev : St c) (q0 : ¬P0_0 ch t) (q1 : P0_1 ch t) :
    step0 ch m ρ c t prev = st0_D ch m ρ c t prev q0 q1 := by
  unfold step0; simp only [dif_neg q0, dif_pos q1]

/-! ## The pipeline's proof data -/

/-- What the tracked buffers held before position `t` of `Fin (N+1)` (the invariant's index). -/
def prev0T (c : Dev nD) (t : Fin ((cfgA ch).N + 1)) : St c :=
  if h : t.val = 0 then (default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2⌝ ∗ (scM0_2.view.loc (c : Thread nD τ) ↦{fullShare} a)) ∗ (tbM0_0.view.loc (c : Thread nD τ) ↦{fullShare.right} pinT_0 ch) ∗ (tbM0_1.view.loc (c : Thread nD τ) ↦{fullShare.right} pinT_1 ch) ∗ (tbM0_2.view.loc (c : Thread nD τ) ↦{fullShare.right} pinT_2 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 4) t
    | ⟨1, _⟩ => iblk ch m ρ c (1 : Fin 4) t
    | ⟨2, _⟩ => iblk ch m ρ c (2 : Fin 4) t
    | ⟨3, _⟩ => (traj0 ch m ρ c t.val t.isLt).1
  Φ t := Phi ch m ρ c t
  q _ := fullShare
  owed _ := 0

theorem after0_0 (c : Dev nD) (t : Fin (cfgA ch).N) : (dats ch m ρ 0 c).after (0 : Fin 4) t = iblk ch m ρ c (0 : Fin 4) t := rfl
theorem after0_1 (c : Dev nD) (t : Fin (cfgA ch).N) : (dats ch m ρ 0 c).after (1 : Fin 4) t = iblk ch m ρ c (1 : Fin 4) t := rfl
theorem after0_2 (c : Dev nD) (t : Fin (cfgA ch).N) : (dats ch m ρ 0 c).after (2 : Fin 4) t = iblk ch m ρ c (2 : Fin 4) t := rfl
theorem after0_3 (c : Dev nD) (t : Fin (cfgA ch).N) : (dats ch m ρ 0 c).after (3 : Fin 4) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 4) t d = iblk ch m ρ c (0 : Fin 4) t :=
  ((dats ch m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 4) t d = iblk ch m ρ c (1 : Fin 4) t :=
  ((dats ch m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 4) t d = iblk ch m ρ c (2 : Fin 4) t :=
  ((dats ch m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Output 3's `after` carries through the points that leave it idle. -/
theorem hcarry0_3 (c : Dev nD) : ∀ (t : Fin (cfgA ch).N) (ht : t.val ≠ 0), (cfgA ch).idle (3 : Fin 4) ((cfgA ch).grid.coords t) = true → (cfgA ch).fresh (3 : Fin 4) t.val = false →
    (dats ch m ρ 0 c).after (3 : Fin 4) t = (dats ch m ρ 0 c).after (3 : Fin 4) ⟨t.val - 1, by omega⟩ := by
  intro t ht hi hf
  rw [after0_3, after0_3, traj0_eq]
  by_cases q0 : P0_0 ch t
  · by_cases q1 : P0_1 ch t
    · rw [step0_B ch m ρ c t _ q0 q1]
      simp only [st0_B, hf, Bool.false_eq_true, ↓reduceIte]
      unfold prev0; rw [dif_neg ht]
    · obtain ⟨i3, -, -, -, -, -⟩ := sched0_A ch t q0 q1
      rw [i3] at hi; exact absurd hi (by decide)
  · by_cases q1 : P0_1 ch t
    · rw [step0_D ch m ρ c t _ q0 q1]
      simp only [st0_D, hf, Bool.false_eq_true, ↓reduceIte]
      unfold prev0; rw [dif_neg ht]
    · obtain ⟨i3, -, -, -, -, -, -, -, -⟩ := sched0_C ch t q0 q1
      rw [i3] at hi; exact absurd hi (by decide)

/-- Output window 3 holds, when the body runs at `t`: junk if nothing was stored since its last write-back (`Cfg.fresh`),
    else what the point before left (TableIdle.lean `Dat.before_out_traj`). -/
theorem before0_3 (c : Dev nD) (t : Fin (cfgA ch).N) (d) :
    (dats ch m ρ 0 c).before (3 : Fin 4) t d = if (cfgA ch).fresh (3 : Fin 4) t.val then d else (prev0 ch m ρ c t).1 := by
  rw [(dats ch m ρ 0 c).before_out_traj (3 : Fin 4) rfl (fun _ _ => rfl) (hcarry0_3 ch m ρ c) t.val t rfl d]
  by_cases hf : (cfgA ch).fresh (3 : Fin 4) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_3]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_flash_diff (crd ch t) (Memref.whole main_c) (Memref.isWhole_whole _) (Memref.whole main_c_0) (Memref.isWhole_whole _) (Memref.whole main_c_1) (Memref.isWhole_whole _) (ms0_0 ch t) (hs0_0 ch t) (ms0_1 ch t) (hs0_1 ch t) (ms0_2 ch t) (hs0_2 ch t) (ms0_3 ch t) (hs0_3 ch t) (Memref.whole cc0_scratch0) (Memref.isWhole_whole _) (Memref.whole cc0_scratch1) (Memref.isWhole_whole _) (Memref.whole cc0_scratch2) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 4) t d))
        ∗ (∃ d, owns (c : Thread nD τ) (ms0_1 ch t) fullShare ((dats ch m ρ 0 c).before (1 : Fin 4) t d))
        ∗ (∃ d, owns (c : Thread nD τ) (ms0_2 ch t) fullShare ((dats ch m ρ 0 c).before (2 : Fin 4) t d))
        ∗ (∃ d, owns (c : Thread nD τ) (ms0_3 ch t) fullShare ((dats ch m ρ 0 c).before (3 : Fin 4) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i3, f3, fr3, sf0, sfn0, sf1, sfn1, sf2, sfn2⟩ := sched0_B ch t q0 q1
      have F0 := hypsR0_B ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, st0_B, Fin.val_castSucc, Fin.val_succ]
      iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩⟩
      iapply ((kernelRun0_B c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) hc0 hc1 hc2 k0_h4).2.2.2 _ a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexact H3
      isplitl [HS0]; · iexact HS0
      isplitl [HS1]; · iexact HS1
      isplitl [HS2]; · iexact HS2
      iintro ⟨H0, H1, H2, HT0, HT1, HT2, H3, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sfn0, sfn1, sfn2⟩ := sched0_A ch t q0 q1
      have F0 := hypsR0_A ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_A ch m ρ c t _ q0 q1]
      unfold Phi; simp only [prev0T_castSucc, prev0T_succ, traj0_eq, step0_A ch m ρ c t _ q0 q1, st0_A, Fin.val_castSucc, Fin.val_succ]
      iintro ⟨⟨⟨%a0, %ha0, HS0⟩, ⟨%a1, %ha1, HS1⟩, ⟨%a2, %ha2, HS2⟩, HT0, HT1, HT2⟩, Ho, ⟨%d0, H0⟩, ⟨%d1, H1⟩, ⟨%d2, H2⟩, ⟨%d3, H3⟩⟩
      iapply ((kernelRun0_A c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) hc0 hc1 hc2 k0_h4).2.2.2.2 a0 a1 a2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      isplitl [HS2]; · iexact HS2
      iintro ⟨H0, H1, H2, HT0, HT1, HT2, ⟨%e3, H3⟩, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_A_3 c _ _ _ _ _ _ _ _ _ _ _ _ _ _ _ _ _ _ _)
  · by_cases q1 : P0_1 ch t
    · obtain ⟨i3, f3, fr3, sf0, sfn0, sf1, sfn1, sf2, sfn2⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, st0_D, Fin.val_castSucc, Fin.val_succ]
      simp only [exists_held sf0, exists_held sf1, exists_held sf2]
      iintro ⟨⟨HS0, HS1, HS2, HT0, HT1, HT2⟩, Ho, ⟨%d0, H0⟩, ⟨%d1, H1⟩, ⟨%d2, H2⟩, ⟨%d3, H3⟩⟩
      iapply ((kernelRun0_D c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) _ _ _ hc0 hc1 hc2 k0_h4).2.2.2 _ _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexact H3
      isplitl [HS0]; · iexact HS0
      isplitl [HS1]; · iexact HS1
      isplitl [HS2]; · iexact HS2
      iintro ⟨H0, H1, H2, HT0, HT1, HT2, H3, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      first | (iexists d3; iexact H3) | iexact H3
    · obtain ⟨i3, f3, fr3, sf0, sfn0, sf1, sfn1, sf2, sfn2⟩ := sched0_C ch t q0 q1
      have F0 := hypsR0_C ch t q0 q1
      have hc0 := F0.1; have F1 := F0.2
      have hc1 := F1.1; have F2 := F1.2
      have hc2 := F2.1; have F3 := F2.2
      have k0_h4 := F3.1; have F4 := F3.2
      clear F0 F1 F2 F3 F4
      rewrite [i3]
      simp only [before0_0, before0_1, before0_2, before0_3, after0_0, after0_1, after0_2, after0_3, f3]
      simp only [fr3, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_C ch m ρ c t _ q0 q1]
      unfold Phi; simp only [prev0T_castSucc, prev0T_succ, traj0_eq, step0_C ch m ρ c t _ q0 q1, st0_C, Fin.val_castSucc, Fin.val_succ]
      simp only [exists_held sf0, exists_held sf1, exists_held sf2]
      iintro ⟨⟨HS0, HS1, HS2, HT0, HT1, HT2⟩, Ho, ⟨%d0, H0⟩, ⟨%d1, H1⟩, ⟨%d2, H2⟩, ⟨%d3, H3⟩⟩
      iapply ((kernelRun0_C c (crd ch t) (ms0_0 ch t) (hs0_0 ch t) (ms0_1 ch t) (hs0_1 ch t) (ms0_2 ch t) (hs0_2 ch t) (ms0_3 ch t) (hs0_3 ch t) (pinT_0 ch) (pinT_1 ch) (pinT_2 ch) (iblk ch m ρ c (0 : Fin 4) t) (iblk ch m ρ c (1 : Fin 4) t) (iblk ch m ρ c (2 : Fin 4) t) _ _ _ hc0 hc1 hc2 k0_h4).2.2.2.2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [HT2]; · iexact HT2
      isplitl [H3]; · iexists _; iexact H3
      isplitl [HS0]; · iexact HS0
      isplitl [HS1]; · iexact HS1
      isplitl [HS2]; · iexact HS2
      iintro ⟨H0, H1, H2, HT0, HT1, HT2, ⟨%e3, H3⟩, HS0, HS1, HS2⟩
      isplitl [HS0 HS1 HS2 HT0 HT1 HT2]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro; exact View.read_writes_of_cover _ _ _ _ _ (cover0_C_3 c _ _ _ _ _ _ _ _ _ _ _ _ _ _ _ _ _ _ _ _ _ _)

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 3 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1) ∗ (((c : Thread nD τ).loc main_c_1) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1, HT2⟩, ⟨%a0, HS0⟩, ⟨%a1, HS1⟩, ⟨%a2, HS2⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HT0]
  · iexact HT0
  isplitl [HT1]
  · iexact HT1
  iexact HT2

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, -, -, -⟩
  isplitr; · iempintro
  isplitl [HS0]
  · iexists a0; iexact HS0
  isplitl [HS1]
  · iexists a1; iexact HS1
  iexists a2; iexact HS2

/-! ## The launch: the three constant tables are written by host operations before the region -/

/-- What the region finds in the buffers of core `c`: the launch memory after the three host constants. -/
abbrev V (c : Dev nD) (b : Ref sig .tc) : Buf (Elt Ideal) ((c : Thread nD τ).loc b) :=
  StableHlo.after (hostOps0 (F := Ideal)) (fun b => m (c, b)) b

/-- The host constants are the tables the certificate is written at. -/
theorem V_pre (c : Dev nD) (j : Fin 3) : V m c (pre0.ref j) = (adm ch).1 j := by
  fin_cases j
  · change StableHlo.after (hostOps0 (F := Ideal)) (fun b => m (c, b)) (Proc.devRef .tc main_c) = pinT_0 ch
    after_results
    funext x; exact lit0_eq ch x
  · change StableHlo.after (hostOps0 (F := Ideal)) (fun b => m (c, b)) (Proc.devRef .tc main_c_0) = pinT_1 ch
    after_results
    funext x; exact lit1_eq ch x
  · change StableHlo.after (hostOps0 (F := Ideal)) (fun b => m (c, b)) (Proc.devRef .tc main_c_1) = pinT_2 ch
    after_results
    funext x; exact lit2_eq ch x

/-- The windows' arrays are untouched by the host constants. -/
theorem V_arr (c : Dev nD) (w : Fin 4) : V m c (Pipeline.arrRef spec0 w) = m ((c : Thread nD τ).loc (Pipeline.arrRef spec0 w)) := by
  fin_cases w
  · change StableHlo.after (hostOps0 (F := Ideal)) (fun b => m (c, b)) (Proc.devRef .tc main_arg0) = _
    after_results
  · change StableHlo.after (hostOps0 (F := Ideal)) (fun b => m (c, b)) (Proc.devRef .tc main_arg1) = _
    after_results
  · change StableHlo.after (hostOps0 (F := Ideal)) (fun b => m (c, b)) (Proc.devRef .tc main_arg2) = _
    after_results
  · change StableHlo.after (hostOps0 (F := Ideal)) (fun b => m (c, b)) (Proc.devRef .tc main_v0) = _
    after_results

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

set_option backward.isDefEq.respectTransparency.types false in
set_option maxHeartbeats 4000000 in
/-- At the compiled mesh, from any memory with zero counters: every weakly fair execution of @main on the TensorCores
    terminates, and every final state has each array at the computed contents, and every semaphore counter at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := Pipeline.hmainP_prefix pcfgs 0 defs₀ Variants.none m main hostOps0 hostOps0_sub ⟨rfl, rfl, rfl⟩ main_chain)
    (hsplit := fun c => Pipeline.arrays_split (pcs ch) (dats ch m ρ) 0 (launch0 (F := Ideal)).win.arr_inj c (launch0 (F := Ideal)).arr_whole
      (share_eq ch m ρ c) _ _ (V_arr m c))
    (hpf := V_pre ch m)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: from any launch memory every weakly fair execution terminates, nothing faults, every argument array ends
    unchanged and every semaphore counter of the machine reads zero at every final state. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 (0 : Fin 4)).trans ((dats 0 m ρ 0 c).arrAt_in (0 : Fin 4) rfl _),
    ((h.1 c).1 (1 : Fin 4)).trans ((dats 0 m ρ 0 c).arrAt_in (1 : Fin 4) rfl _),
    ((h.1 c).1 (2 : Fin 4)).trans ((dats 0 m ρ 0 c).arrAt_in (2 : Fin 4) rfl _)⟩, h.2⟩) (run_main_quiescent 0 m ρ)

end Cert.Kernel2Ideal.Diff

end
-- ==== Proof.DiffIdeal.Step.lean ====
module
public import proofs.«01_k».proof.Proof.DiffIdeal.Flash
public import Idealize.ShloMosaic.Lib.Pointwise
public import Idealize.ShloMosaic.Lib.Pipeline.ValueKit
public import Idealize.ShloMosaic.Lib.Pipeline.ReadBack
public import proofs.«01_k».proof.Proof.Online
@[expose] public section
set_option maxRecDepth 16384
noncomputable section
namespace Cert.Kernel2Ideal.Diff
open Cert.Kernel2Ideal Cert.Kernel2Ideal.Gen
open Idealize.ShloMosaic
open Idealize.ShloMosaic.TcCoe Idealize.ShloMosaic.Tactic
theorem negInf : Ideal.ofBits .f32 0xFF800000#32 = ⊥ := by simp [Ideal.ofBits, Ideal.ieee]

abbrev XQ := FVec Ideal S1x2x1024x128 .bf16
abbrev XV := FVec Ideal S1x256x1024 .bf16
abbrev SM := FVec Ideal S2x1x1024 .f32
abbrev SA := FVec Ideal S2x128x1024 .f32
/-- The block's scores of head `g`: key `k` against query `r`. -/
def raw (x0 x1 : XQ) (g : Fin 2) (k r : Fin 1024) : EReal := ∑ d : Fin 128, x1 (ix4 0 g k d) * x0 (ix4 0 g r d)
theorem k0_off1_lt (i : grid0.Coords) : k0_off1 i 0 < 36 := by have := k0_off1_inb i 0; simp at this; omega
def wd0 (i : grid0.Coords) (X : S36.Idx → Elt Ideal .i32) : BitVec 32 := X (ix1 ⟨k0_off1 i 0, k0_off1_lt i⟩)
theorem exp2_eq (x : EReal) : FloatOps.exp2 (F := Ideal) (φ := .f32) x = Ideal.exp2 x := rfl
theorem pay1_eq (i) : k0_pay1 (F := Ideal) i = ⊥ := by pointwise [k0_pay1, negInf]
theorem pay2_eq (i) : k0_pay2 (F := Ideal) i = 0 := by pointwise [k0_pay2]
theorem pay3_eq (i) : k0_pay3 (F := Ideal) i = 0 := by pointwise [k0_pay3]
/-- Two pieces that hold an index hide the piece under them. -/
theorem canon_trim {S : Shape} {e : EltTy} (p q r : View.Piece (Elt Ideal) S e) (y : S.Idx)
    (h : ∃ x ∈ [p, q], y ∈ x.1.set) : View.canon [p, q, r] y = View.canon [p, q] y := by
  by_cases hp : y ∈ p.1.set
  · obtain ⟨x, rfl⟩ := p.1.exists_idx_of_mem hp
    exact (View.canon_cons_emb p.1 p.2 [q, r] x).trans (View.canon_cons_emb p.1 p.2 [q] x).symm
  · rw [View.canon_cons_of_not_mem _ _ hp, View.canon_cons_of_not_mem _ _ hp]
    have hq : y ∈ q.1.set := by
      obtain ⟨x, hx, hy⟩ := h
      simp only [List.mem_cons, List.not_mem_nil, or_false] at hx
      rcases hx with rfl | rfl
      · exact absurd hy hp
      · exact hy
    obtain ⟨x, rfl⟩ := q.1.exists_idx_of_mem hq
    exact (View.canon_cons_emb q.1 q.2 [r] x).trans (View.canon_cons_emb q.1 q.2 [] x).symm
def msk (i j : BitVec 32) (s : Fin 2 → Fin 1024 → Fin 1024 → EReal) (g : Fin 2) (k r : Fin 1024) : EReal :=
  Scalar.select (IntOp.cmpi .sle (IntOp.addi (Scalar.muli j 1024#32) (BitVec.ofNat 32 k)) (IntOp.addi (Scalar.muli i 1024#32) (BitVec.ofNat 32 r))) (s g k r) ⊥
def newM (sc : Fin 2 → Fin 1024 → Fin 1024 → EReal) (p : SM) (g : Fin 2) (r : Fin 1024) : EReal :=
  max (p (ix3 g 0 r)) (Finset.univ.fold max ⊥ fun k : Fin 1024 => sc g k r)
def newL (sc : Fin 2 → Fin 1024 → Fin 1024 → EReal) (p l : SM) (g : Fin 2) (r : Fin 1024) : EReal :=
  Ideal.exp2 (p (ix3 g 0 r) - newM sc p g r) * l (ix3 g 0 r) + ∑ k : Fin 1024, Ideal.exp2 (sc g k r - newM sc p g r)
def newA (sc : Fin 2 → Fin 1024 → Fin 1024 → EReal) (x2 : XV) (p : SM) (a : SA) (g : Fin 2) (d : Fin 128) (r : Fin 1024) : EReal :=
  Ideal.exp2 (p (ix3 g 0 r) - newM sc p g r) * a (ix3 g d r)
    + ∑ k : Fin 1024, x2 (ix3 0 ⟨g.val * 128 + d.val, by omega⟩ k) * Ideal.exp2 (sc g k r - newM sc p g r)

/-- An index of rank three from its coordinates. -/
theorem idx3_ext {s0 s1 s2 : ℕ} (y : (⟨3, ![s0, s1, s2]⟩ : Shape).Idx) (a : Fin s0) (b : Fin s1) (c : Fin s2)
    (h0 : (y 0).val = a.val) (h1 : (y 1).val = b.val) (h2 : (y 2).val = c.val) : y = ix3 a b c := by
  funext k
  match k with
  | 0 => exact Fin.ext h0
  | 1 => exact Fin.ext h1
  | 2 => exact Fin.ext h2
theorem read_sc0 (c : Dev nD) (X) : (View.whole cc0_scratch0).read (Elt Ideal) (X : Buf (Elt Ideal) ((c : Thread nD τ).loc cc0_scratch0)) = X := rfl
theorem read_sc1 (c : Dev nD) (X) : (View.whole cc0_scratch1).read (Elt Ideal) (X : Buf (Elt Ideal) ((c : Thread nD τ).loc cc0_scratch1)) = X := rfl
theorem read_sc2 (c : Dev nD) (X) : (View.whole cc0_scratch2).read (Elt Ideal) (X : Buf (Elt Ideal) ((c : Thread nD τ).loc cc0_scratch2)) = X := rfl

set_option maxHeartbeats 3200000 in
/-- What the first tile of a query block that is also its diagonal one, leaves in the running maxima. -/
theorem step_A0 (c : Dev nD) (i) (a6 h6 a7 h7 a8 h8 a9 h9 T0 T1 T2 x0 x1 x2 u1 u2 u3 u4) (y : S2x1x1024.Idx) : (View.whole cc0_scratch0).read (Elt Ideal) (kernelRun0_A c i a6 h6 a7 h7 a8 h8 a9 h9 T0 T1 T2 x0 x1 x2 u1 u2 u3 u4).2.1 y = newM (msk (wd0 i T0) (wd0 i T1) (raw x0 x1)) (fun _ => ⊥) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0, ef1, ef2, ef3]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0, ef1, ef2, ef3]

set_option maxHeartbeats 3200000 in
/-- What the first tile of a query block that is also its diagonal one, leaves in the running sums of powers. -/
theorem step_A1 (c : Dev nD) (i) (a6 h6 a7 h7 a8 h8 a9 h9 T0 T1 T2 x0 x1 x2 u1 u2 u3 u4) (y : S2x1x1024.Idx) : (View.whole cc0_scratch1).read (Elt Ideal) (kernelRun0_A c i a6 h6 a7 h7 a8 h8 a9 h9 T0 T1 T2 x0 x1 x2 u1 u2 u3 u4).2.2.1 y = newL (msk (wd0 i T0) (wd0 i T1) (raw x0 x1)) (fun _ => ⊥) (fun _ => 0) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0, ef1, ef2, ef3]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0, ef1, ef2, ef3]

set_option maxHeartbeats 3200000 in
/-- What the first tile of a query block that is also its diagonal one, leaves in the running weighted sums of values. -/
theorem step_A2 (c : Dev nD) (i) (a6 h6 a7 h7 a8 h8 a9 h9 T0 T1 T2 x0 x1 x2 u1 u2 u3 u4) (y : S2x128x1024.Idx) : (View.whole cc0_scratch2).read (Elt Ideal) (kernelRun0_A c i a6 h6 a7 h7 a8 h8 a9 h9 T0 T1 T2 x0 x1 x2 u1 u2 u3 u4).2.2.2.1 y = newA (msk (wd0 i T0) (wd0 i T1) (raw x0 x1)) x2 (fun _ => ⊥) (fun _ => 0) (y 0) (y 1) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0, ef1, ef2, ef3]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0, ef1, ef2, ef3]

set_option maxHeartbeats 3200000 in
/-- What the first tile of a query block that is also its diagonal one, leaves in the output block: the weighted sums over the sums of powers. -/
theorem step_Aout (c : Dev nD) (i) (a6 h6 a7 h7 a8 h8 a9 h9 T0 T1 T2 x0 x1 x2 u1 u2 u3 u4) (y : S1x256x1024.Idx) (g : Fin 2) (d : Fin 128) (e1 : (y 1).val = g.val * 128 + d.val) : out0_A_3 c i a6 h6 a7 h7 a8 h8 a9 h9 T0 T1 T2 x0 x1 x2 u1 u2 u3 u4 y = Ideal.div (newA (msk (wd0 i T0) (wd0 i T1) (raw x0 x1)) x2 (fun _ => ⊥) (fun _ => 0) g d (y 2)) (newL (msk (wd0 i T0) (wd0 i T1) (raw x0 x1)) (fun _ => ⊥) (fun _ => 0) g (y 2)) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · obtain rfl : g = 1 := Fin.ext (show g.val = 1 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0, ef1, ef2, ef3]
  · obtain rfl : g = 0 := Fin.ext (show g.val = 0 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0, ef1, ef2, ef3]

set_option maxHeartbeats 3200000 in
/-- What the first tile of a query block, below the diagonal, leaves in the running maxima. -/
theorem step_B0 (c : Dev nD) (i) (a6 h6 a7 h7 a8 h8 a9 h9 T0 T1 T2 x0 x1 x2 u1 u2 u3 u4) (y : S2x1x1024.Idx) : (View.whole cc0_scratch0).read (Elt Ideal) (kernelRun0_B c i a6 h6 a7 h7 a8 h8 a9 h9 T0 T1 T2 x0 x1 x2 u1 u2 u3 u4).1 y = newM (raw x0 x1) (fun _ => ⊥) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0, ef1, ef2, ef3]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0, ef1, ef2, ef3]

set_option maxHeartbeats 3200000 in
/-- What the first tile of a query block, below the diagonal, leaves in the running sums of powers. -/
theorem step_B1 (c : Dev nD) (i) (a6 h6 a7 h7 a8 h8 a9 h9 T0 T1 T2 x0 x1 x2 u1 u2 u3 u4) (y : S2x1x1024.Idx) : (View.whole cc0_scratch1).read (Elt Ideal) (kernelRun0_B c i a6 h6 a7 h7 a8 h8 a9 h9 T0 T1 T2 x0 x1 x2 u1 u2 u3 u4).2.1 y = newL (raw x0 x1) (fun _ => ⊥) (fun _ => 0) (y 0) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0, ef1, ef2, ef3]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0, ef1, ef2, ef3]

set_option maxHeartbeats 3200000 in
/-- What the first tile of a query block, below the diagonal, leaves in the running weighted sums of values. -/
theorem step_B2 (c : Dev nD) (i) (a6 h6 a7 h7 a8 h8 a9 h9 T0 T1 T2 x0 x1 x2 u1 u2 u3 u4) (y : S2x128x1024.Idx) : (View.whole cc0_scratch2).read (Elt Ideal) (kernelRun0_B c i a6 h6 a7 h7 a8 h8 a9 h9 T0 T1 T2 x0 x1 x2 u1 u2 u3 u4).2.2.1 y = newA (raw x0 x1) x2 (fun _ => ⊥) (fun _ => 0) (y 0) (y 1) (y 2) := by
  frame_open
  obtain ⟨f1, eq1, ef1⟩ : ∃ f, k0_pay1 (F := Ideal) = f ∧ ∀ i, f i = ⊥ := ⟨_, rfl, pay1_eq⟩
  obtain ⟨f2, eq2, ef2⟩ : ∃ f, k0_pay2 (F := Ideal) = f ∧ ∀ i, f i = 0 := ⟨_, rfl, pay2_eq⟩
  obtain ⟨f3, eq3, ef3⟩ : ∃ f, k0_pay3 (F := Ideal) = f ∧ ∀ i, f i = 0 := ⟨_, rfl, pay3_eq⟩
  try simp only [eq1, eq2, eq3]
  clear eq1 eq2 eq3
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  refine (canon_trim _ _ _ y ?_).trans ?_
  · exact View.cover_of_tiled_head _ _ _ (by rfl) y
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0, ef1, ef2, ef3]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0, ef1, ef2, ef3]

set_option maxHeartbeats 3200000 in
/-- What a later tile, the diagonal one, leaves in the running maxima. -/
theorem step_C0 (c : Dev nD) (i) (a6 h6 a7 h7 a8 h8 a9 h9 T0 T1 T2 x0 x1 x2 p0 p1 p2 u1 u2 u3 u4) (y : S2x1x1024.Idx) : (View.whole cc0_scratch0).read (Elt Ideal) (kernelRun0_C c i a6 h6 a7 h7 a8 h8 a9 h9 T0 T1 T2 x0 x1 x2 p0 p1 p2 u1 u2 u3 u4).2.1 y = newM (msk (wd0 i T0) (wd0 i T1) (raw x0 x1)) p0 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newM, msk, raw]
    try simp only [exp2_eq, View.read_whole, wd0]

set_option maxHeartbeats 3200000 in
/-- What a later tile, the diagonal one, leaves in the running sums of powers. -/
theorem step_C1 (c : Dev nD) (i) (a6 h6 a7 h7 a8 h8 a9 h9 T0 T1 T2 x0 x1 x2 p0 p1 p2 u1 u2 u3 u4) (y : S2x1x1024.Idx) : (View.whole cc0_scratch1).read (Elt Ideal) (kernelRun0_C c i a6 h6 a7 h7 a8 h8 a9 h9 T0 T1 T2 x0 x1 x2 p0 p1 p2 u1 u2 u3 u4).2.2.1 y = newL (msk (wd0 i T0) (wd0 i T1) (raw x0 x1)) p0 p1 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newL, newM, msk, raw]
    try simp only [exp2_eq, View.read_whole, wd0]

set_option maxHeartbeats 3200000 in
/-- What a later tile, the diagonal one, leaves in the running weighted sums of values. -/
theorem step_C2 (c : Dev nD) (i) (a6 h6 a7 h7 a8 h8 a9 h9 T0 T1 T2 x0 x1 x2 p0 p1 p2 u1 u2 u3 u4) (y : S2x128x1024.Idx) : (View.whole cc0_scratch2).read (Elt Ideal) (kernelRun0_C c i a6 h6 a7 h7 a8 h8 a9 h9 T0 T1 T2 x0 x1 x2 p0 p1 p2 u1 u2 u3 u4).2.2.2.1 y = newA (msk (wd0 i T0) (wd0 i T1) (raw x0 x1)) x2 p0 p2 (y 0) (y 1) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0]
  · rw [idx3_ext y 0 (x 1) (x 2) (show (y 0).val = 0 by omega) (by omega) (by omega)]
    pointwise [k0_pay24, k0_pay25, k0_pay26, k0_pay27, k0_pay28, k0_pay29, k0_pay30, k0_pay31, k0_pay32, k0_pay33, k0_pay34, k0_pay35, k0_pay36, k0_pay37, k0_pay38, k0_pay39, negInf, newA, newM, msk, raw]
    try simp only [exp2_eq, View.read_whole, wd0]

set_option maxHeartbeats 3200000 in
/-- What a later tile, the diagonal one, leaves in the output block: the weighted sums over the sums of powers. -/
theorem step_Cout (c : Dev nD) (i) (a6 h6 a7 h7 a8 h8 a9 h9 T0 T1 T2 x0 x1 x2 p0 p1 p2 u1 u2 u3 u4) (y : S1x256x1024.Idx) (g : Fin 2) (d : Fin 128) (e1 : (y 1).val = g.val * 128 + d.val) : out0_C_3 c i a6 h6 a7 h7 a8 h8 a9 h9 T0 T1 T2 x0 x1 x2 p0 p1 p2 u1 u2 u3 u4 y = Ideal.div (newA (msk (wd0 i T0) (wd0 i T1) (raw x0 x1)) x2 p0 p2 g d (y 2)) (newL (msk (wd0 i T0) (wd0 i T1) (raw x0 x1)) p0 p1 g (y 2)) := by
  frame_open
  simp (disch := decide) only [↓ View.readCov_skip, ↓ View.readCov_cons_toLoadRect, ↓ View.readCov_fill]
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · obtain rfl : g = 1 := Fin.ext (show g.val = 1 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0]
  · obtain rfl : g = 0 := Fin.ext (show g.val = 0 by omega)
    obtain rfl : d = x 1 := Fin.ext (by omega)
    rw [show y 2 = x 2 from Fin.ext (by omega)]
    pointwise [k0_pay6, k0_pay7, k0_pay24, k0_pay25, k0_pay26, k0_pay27, k0_pay28, k0_pay29, k0_pay30, k0_pay31, k0_pay32, k0_pay33, k0_pay34, k0_pay35, k0_pay36, k0_pay37, k0_pay38, k0_pay39, negInf, newA, newL, newM, msk, raw]
    try simp only [exp2_eq, View.read_whole, wd0]

set_option maxHeartbeats 3200000 in
/-- What a later tile, below the diagonal, leaves in the running maxima. -/
theorem step_D0 (c : Dev nD) (i) (a6 h6 a7 h7 a8 h8 a9 h9 T0 T1 T2 x0 x1 x2 p0 p1 p2 u1 u2 u3 u4) (y : S2x1x1024.Idx) : (View.whole cc0_scratch0).read (Elt Ideal) (kernelRun0_D c i a6 h6 a7 h7 a8 h8 a9 h9 T0 T1 T2 x0 x1 x2 p0 p1 p2 u1 u2 u3 u4).1 y = newM (raw x0 x1) p0 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newM, raw]
    try simp only [exp2_eq, View.read_whole, wd0]

set_option maxHeartbeats 3200000 in
/-- What a later tile, below the diagonal, leaves in the running sums of powers. -/
theorem step_D1 (c : Dev nD) (i) (a6 h6 a7 h7 a8 h8 a9 h9 T0 T1 T2 x0 x1 x2 p0 p1 p2 u1 u2 u3 u4) (y : S2x1x1024.Idx) : (View.whole cc0_scratch1).read (Elt Ideal) (kernelRun0_D c i a6 h6 a7 h7 a8 h8 a9 h9 T0 T1 T2 x0 x1 x2 p0 p1 p2 u1 u2 u3 u4).2.1 y = newL (raw x0 x1) p0 p1 (y 0) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newL, newM, raw]
    try simp only [exp2_eq, View.read_whole, wd0]

set_option maxHeartbeats 3200000 in
/-- What a later tile, below the diagonal, leaves in the running weighted sums of values. -/
theorem step_D2 (c : Dev nD) (i) (a6 h6 a7 h7 a8 h8 a9 h9 T0 T1 T2 x0 x1 x2 p0 p1 p2 u1 u2 u3 u4) (y : S2x128x1024.Idx) : (View.whole cc0_scratch2).read (Elt Ideal) (kernelRun0_D c i a6 h6 a7 h7 a8 h8 a9 h9 T0 T1 T2 x0 x1 x2 p0 p1 p2 u1 u2 u3 u4).2.2.1 y = newA (raw x0 x1) x2 p0 p2 (y 0) (y 1) (y 2) := by
  frame_open
  clear u1 u2 u3 u4 h6 h7 h8 h9
  simp (disch := decide) only [View.read_writes_junk_eq_canon, View.canon_cons_unit_lit', View.ld_unit_lit', View.readCov_unit_lit', View.readCov_cons_unit_lit', View.readAt_eq_ld, Memref.IsWhole.read_unread, View.read_rep]
  canon_tiles x h
  · rw [idx3_ext y 1 (x 1) (x 2) (show (y 0).val = 1 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0]
  · rw [idx3_ext y 0 (x 1) (x 2) (show (y 0).val = 0 by omega) (by omega) (by omega)]
    pointwise [k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, negInf, newA, newM, raw]
    try simp only [exp2_eq, View.read_whole, wd0]

end Cert.Kernel2Ideal.Diff
end
-- ==== Proof.DiffIdeal.Inv.lean ====
module
public import proofs.«01_k».proof.Proof.DiffIdeal.Step
public import Idealize.ShloMosaic.Lib.WordCmp
@[expose] public section
set_option maxRecDepth 16384
noncomputable section
namespace Cert.Kernel2Ideal.Diff
open Cert.Kernel2Ideal Cert.Kernel2Ideal.Gen
open Idealize.ShloMosaic
open Idealize.ShloMosaic.TcCoe Idealize.ShloMosaic.Tactic
open Cert.Online (mx ls ac sg vl)

/-! ## Where a grid point stands: batch, pair of heads, query block, key block -/

/-- The batch of point `t`. -/
def bI (t : ℕ) : ℕ := t / 144
/-- The pair of heads of point `t`. -/
def hI (t : ℕ) : ℕ := t / 36 % 4
/-- The query block of point `t`. -/
def iI (t : ℕ) : ℕ := [0,1,1,2,2,2,3,3,3,3,4,4,4,4,4,5,5,5,5,5,5,6,6,6,6,6,6,6,7,7,7,7,7,7,7,7].getD (t % 36) 0
/-- The key block of point `t`. -/
def jI (t : ℕ) : ℕ := [0,0,1,0,1,2,0,1,2,3,0,1,2,3,4,0,1,2,3,4,5,0,1,2,3,4,5,6,0,1,2,3,4,5,6,7].getD (t % 36) 0

theorem N_eq : (cfgA 0).N = 288 := by decide +kernel
theorem idx0 : ∀ t : Fin (cfgA 0).N, ((cfgA 0).win 0).index t = ![bI t, hI t, iI t, 0] := by decide +kernel
theorem idx1 : ∀ t : Fin (cfgA 0).N, ((cfgA 0).win 1).index t = ![bI t, hI t, jI t, 0] := by decide +kernel
theorem idx2 : ∀ t : Fin (cfgA 0).N, ((cfgA 0).win 2).index t = ![bI t, hI t % 2, jI t] := by decide +kernel
theorem idx3 : ∀ t : Fin (cfgA 0).N, ((cfgA 0).win 3).index t = ![bI t, hI t, iI t] := by decide +kernel

/-- What the body's decisions and words are at each point. -/
theorem tileFacts : ∀ t : Fin (cfgA 0).N, (P0_0 0 t ↔ jI t = 0) ∧ (P0_1 0 t ↔ jI t < iI t) ∧ jI t ≤ iI t ∧ iI t < 8 ∧ bI t < 2 ∧ hI t < 4
    ∧ wd0 (crd 0 t) (pinT_0 0) = BitVec.ofNat 32 (iI t) ∧ wd0 (crd 0 t) (pinT_1 0) = BitVec.ofNat 32 (jI t) := by decide +kernel
/-- A point that is not the first of its query block follows the key block before. -/
theorem prevFacts : ∀ t : Fin 288, jI t ≠ 0 → t.val ≠ 0 ∧ bI (t.val - 1) = bI t ∧ hI (t.val - 1) = hI t ∧ iI (t.val - 1) = iI t ∧ jI (t.val - 1) + 1 = jI t := by
  decide +kernel

/-! ## One tile's update of the running statistics -/

theorem newM_eq (sc : Fin 2 → Fin 1024 → Fin 1024 → EReal) (p : SM) (g : Fin 2) (r : Fin 1024) (σ : ℕ → EReal) (n : ℕ)
    (es : ∀ k : Fin 1024, sc g k r = σ (n + k.val)) (ep : p (ix3 g 0 r) = mx σ n) : newM sc p g r = mx σ (n + 1024) := by
  unfold newM; simp only [es]; rw [ep]; exact Online.mx_step σ n 1024

theorem newL_eq (sc : Fin 2 → Fin 1024 → Fin 1024 → EReal) (p l : SM) (g : Fin 2) (r : Fin 1024) (σ : ℕ → EReal) (n : ℕ)
    (es : ∀ k : Fin 1024, sc g k r = σ (n + k.val)) (ep : p (ix3 g 0 r) = mx σ n) (el : l (ix3 g 0 r) = ls σ n) :
    newL sc p l g r = ls σ (n + 1024) := by
  unfold newL; rw [newM_eq sc p g r σ n es ep]; simp only [es]; rw [ep, el]; exact Online.ls_step σ n 1024

theorem newA_eq (sc : Fin 2 → Fin 1024 → Fin 1024 → EReal) (x2 : XV) (p : SM) (a : SA) (g : Fin 2) (d : Fin 128) (r : Fin 1024) (σ v : ℕ → EReal) (n : ℕ)
    (es : ∀ k : Fin 1024, sc g k r = σ (n + k.val)) (ep : p (ix3 g 0 r) = mx σ n) (ea : a (ix3 g d r) = ac σ v n)
    (ev : ∀ k : Fin 1024, x2 (ix3 0 ⟨g.val * 128 + d.val, by omega⟩ k) = v (n + k.val)) :
    newA sc x2 p a g d r = ac σ v (n + 1024) := by
  unfold newA; rw [newM_eq sc p g r σ n es ep]; simp only [es, ev]; rw [ep, ea]; exact Online.ac_step σ v n 1024

/-- The mask of a tile: the score where the key's position is at most the query's. -/
theorem msk_eq (i j : ℕ) (s : Fin 2 → Fin 1024 → Fin 1024 → EReal) (g : Fin 2) (k r : Fin 1024) (ei : i < 8) (ej : j < 8) :
    msk (BitVec.ofNat 32 i) (BitVec.ofNat 32 j) s g k r = if j * 1024 + k.val ≤ i * 1024 + r.val then s g k r else ⊥ := by
  unfold msk Scalar.select Scalar.muli IntOp.muli IntOp.addi
  rw [← BitVec.ofNat_mul, ← BitVec.ofNat_mul, ← BitVec.ofNat_add, ← BitVec.ofNat_add]
  by_cases hle : j * 1024 + k.val ≤ i * 1024 + r.val
  · rw [if_pos hle, if_pos]
    exact (WordCmp.cmpi_sle_ofNat_eq_one_iff (by omega) (by omega)).mpr hle
  · rw [if_neg hle, if_neg]
    exact fun hh => hle ((WordCmp.cmpi_sle_ofNat_eq_one_iff (by omega) (by omega)).mp hh)

variable (m : (ℓ : Loc nD τ sig) → Buf (Elt Ideal) ℓ) (ρ : Dev nD → PrngReg)

/-- The three argument arrays. -/
abbrev Qa (c : Dev nD) : FVec Ideal S2x8x8192x128 .bf16 := m ((c : Thread nD τ).loc main_arg0)
abbrev Ka (c : Dev nD) : FVec Ideal S2x8x8192x128 .bf16 := m ((c : Thread nD τ).loc main_arg1)
abbrev Va (c : Dev nD) : FVec Ideal S2x512x8192 .bf16 := m ((c : Thread nD τ).loc main_arg2)

/-- Query `q` of head `h` against every key. -/
def dotv (c : Dev nD) (b : Fin 2) (h : Fin 8) (q : Fin 8192) (k : Fin 8192) : EReal :=
  ∑ d : Fin 128, Ka m c (ix4 b h k d) * Qa m c (ix4 b h q d)
/-- The causal scores of query `q`. -/
abbrev sgv (c : Dev nD) (b : Fin 2) (h : Fin 8) (q : Fin 8192) : ℕ → EReal := sg (dotv m c b h q) q.val
/-- Row `w` of the values. -/
abbrev vlv (c : Dev nD) (b : Fin 2) (w : Fin 512) : ℕ → EReal := vl fun k : Fin 8192 => Va m c (ix3 b w k)

theorem iblk0_eq (c : Dev nD) (t : Fin (cfgA 0).N) (g : Fin 2) (r : Fin 1024) (d : Fin 128) (b : Fin 2) (h : Fin 8) (q : Fin 8192)
    (eb : b.val = bI t) (eh : h.val = hI t * 2 + g) (eq : q.val = iI t * 1024 + r) :
    (iblk 0 m ρ c 0 t : XQ) (ix4 0 g r d) = Qa m c (ix4 b h q d) := by
  blk_ext [iblk, V, idx0 t]
theorem iblk1_eq (c : Dev nD) (t : Fin (cfgA 0).N) (g : Fin 2) (r : Fin 1024) (d : Fin 128) (b : Fin 2) (h : Fin 8) (q : Fin 8192)
    (eb : b.val = bI t) (eh : h.val = hI t * 2 + g) (eq : q.val = jI t * 1024 + r) :
    (iblk 0 m ρ c 1 t : XQ) (ix4 0 g r d) = Ka m c (ix4 b h q d) := by
  blk_ext [iblk, V, idx1 t]
theorem iblk2_eq (c : Dev nD) (t : Fin (cfgA 0).N) (w : Fin 256) (r : Fin 1024) (b : Fin 2) (u : Fin 512) (q : Fin 8192)
    (eb : b.val = bI t) (eh : u.val = hI t % 2 * 256 + w) (eq : q.val = jI t * 1024 + r) :
    (iblk 0 m ρ c 2 t : XV) (ix3 0 w r) = Va m c (ix3 b u q) := by
  blk_ext [iblk, V, idx2 t]

theorem raw_eq (c : Dev nD) (t : Fin (cfgA 0).N) (g : Fin 2) (k r : Fin 1024) (b : Fin 2) (h : Fin 8) (q : Fin 8192) (kk : Fin 8192)
    (eb : b.val = bI t) (eh : h.val = hI t * 2 + g) (eq : q.val = iI t * 1024 + r) (ek : kk.val = jI t * 1024 + k) :
    raw (iblk 0 m ρ c 0 t) (iblk 0 m ρ c 1 t) g k r = dotv m c b h q kk := by
  unfold raw dotv
  refine Finset.sum_congr rfl fun d _ => ?_
  rw [iblk0_eq m ρ c t g r d b h q eb eh eq, iblk1_eq m ρ c t g k d b h kk eb eh ek]

/-- The scores a point works with: masked on the diagonal, plain below it. -/
def scT (c : Dev nD) (t : Fin (cfgA 0).N) : Fin 2 → Fin 1024 → Fin 1024 → EReal :=
  if jI t < iI t then raw (iblk 0 m ρ c 0 t) (iblk 0 m ρ c 1 t)
  else msk (wd0 (crd 0 t) (pinT_0 0)) (wd0 (crd 0 t) (pinT_1 0)) (raw (iblk 0 m ρ c 0 t) (iblk 0 m ρ c 1 t))

theorem scT_eq (c : Dev nD) (t : Fin (cfgA 0).N) (g : Fin 2) (k r : Fin 1024) (b : Fin 2) (h : Fin 8) (q : Fin 8192)
    (eb : b.val = bI t) (eh : h.val = hI t * 2 + g) (eq : q.val = iI t * 1024 + r) :
    scT m ρ c t g k r = sgv m c b h q (jI t * 1024 + k.val) := by
  obtain ⟨-, -, f2, f3, -, -, f6, f7⟩ := tileFacts t
  have hk : jI t * 1024 + k.val < 8192 := by omega
  have er := raw_eq m ρ c t g k r b h q ⟨jI t * 1024 + k.val, hk⟩ eb eh eq rfl
  unfold scT
  split
  next hlt => rw [er, sgv, Online.sg_of_le _ _ _ hk (by omega)]
  next hlt =>
    rw [f6, f7, msk_eq _ _ _ _ _ _ f3 (by omega), er]
    split
    next hle => rw [sgv, Online.sg_of_le _ _ _ hk (by omega)]
    next hle => rw [sgv, Online.sg_of_lt _ _ _ (by omega)]

/-! ## The statistics a point leaves -/

/-- The scratches of `s` hold the statistics of the queries of point `t` over their first `n` keys. -/
def Holds (c : Dev nD) (t n : ℕ) (pm pl : SM) (pa : SA) : Prop :=
  ∀ (b : Fin 2) (h : Fin 8) (q : Fin 8192) (g : Fin 2) (r : Fin 1024), b.val = bI t → h.val = hI t * 2 + g.val → q.val = iI t * 1024 + r.val →
    pm (ix3 g 0 r) = mx (sgv m c b h q) n ∧ pl (ix3 g 0 r) = ls (sgv m c b h q) n
      ∧ ∀ (d : Fin 128) (w : Fin 512), w.val = h.val % 4 * 128 + d.val → pa (ix3 g d r) = ac (sgv m c b h q) (vlv m c b w) n

theorem holds_zero (c : Dev nD) (t : ℕ) : Holds m c t 0 (fun _ => ⊥) (fun _ => 0) (fun _ => 0) :=
  fun _ _ _ _ _ _ _ _ => ⟨rfl, rfl, fun _ _ _ => rfl⟩

/-- A tile carries the statistics over its keys. -/
theorem holds_step (c : Dev nD) (t : Fin (cfgA 0).N) (pm pl : SM) (pa : SA) (hp : Holds m c t.val (jI t * 1024) pm pl pa)
    (pm' pl' : SM) (pa' : SA) (em : ∀ g r, pm' (ix3 g 0 r) = newM (scT m ρ c t) pm g r) (el : ∀ g r, pl' (ix3 g 0 r) = newL (scT m ρ c t) pm pl g r)
    (ea : ∀ g d r, pa' (ix3 g d r) = newA (scT m ρ c t) (iblk 0 m ρ c 2 t) pm pa g d r) :
    Holds m c t.val (jI t * 1024 + 1024) pm' pl' pa' := by
  intro b h q g r eb eh eq
  obtain ⟨h0, h1, h2⟩ := hp b h q g r eb eh eq
  obtain ⟨-, -, f2, f3, f4, f5, -, -⟩ := tileFacts t
  have es := fun k : Fin 1024 => scT_eq m ρ c t g k r b h q eb eh eq
  refine ⟨?_, ?_, ?_⟩
  · rw [em]; exact newM_eq _ _ _ _ _ _ es h0
  · rw [el]; exact newL_eq _ _ _ _ _ _ _ es h0 h1
  · intro d w ew
    rw [ea]
    refine newA_eq _ _ _ _ _ _ _ _ _ _ es h0 (h2 d w ew) fun k => ?_
    have hk : jI t * 1024 + k.val < 8192 := by omega
    rw [vlv, Online.vl_of_lt _ _ hk]
    exact iblk2_eq m ρ c t _ k b w ⟨_, hk⟩ eb (by show w.val = hI t % 2 * 256 + (g.val * 128 + d.val); omega) rfl

theorem scT_diag (c : Dev nD) (t : Fin (cfgA 0).N) (h : ¬ jI t < iI t) :
    scT m ρ c t = msk (wd0 (crd 0 t) (pinT_0 0)) (wd0 (crd 0 t) (pinT_1 0)) (raw (iblk 0 m ρ c 0 t) (iblk 0 m ρ c 1 t)) := if_neg h
theorem scT_full (c : Dev nD) (t : Fin (cfgA 0).N) (h : jI t < iI t) :
    scT m ρ c t = raw (iblk 0 m ρ c 0 t) (iblk 0 m ρ c 1 t) := if_pos h

end Cert.Kernel2Ideal.Diff
end
-- ==== Proof.DiffIdeal.Traj.lean ====
module
public import proofs.«01_k».proof.Proof.DiffIdeal.Inv
public import Idealize.ShloMosaic.Lib.WordCmp
@[expose] public section
set_option maxRecDepth 16384
noncomputable section
namespace Cert.Kernel2Ideal.Diff
open Cert.Kernel2Ideal Cert.Kernel2Ideal.Gen
open Idealize.ShloMosaic
open Idealize.ShloMosaic.TcCoe Idealize.ShloMosaic.Tactic
open Cert.Online (mx ls ac sg vl)

variable (m : (ℓ : Loc nD τ sig) → Buf (Elt Ideal) ℓ) (ρ : Dev nD → PrngReg)

/-- The statistics after the first tile of a query block, on the diagonal. -/
theorem holds_A (c : Dev nD) (t : Fin (cfgA 0).N) (s : St c) (q0 : P0_0 0 t) (q1 : ¬ P0_1 0 t) (hd : ¬ jI t < iI t) (hj : jI t = 0) :
    Holds m c t.val (jI t * 1024 + 1024) (step0 0 m ρ c t s).2.1 (step0 0 m ρ c t s).2.2.1 (step0 0 m ρ c t s).2.2.2 := by
  rw [step0_A 0 m ρ c t s q0 q1]
  dsimp only [st0_A]
  refine holds_step m ρ c t (fun _ => ⊥) (fun _ => 0) (fun _ => 0) (by rw [hj]; exact holds_zero m c t) _ _ _ (fun g r => ?_) (fun g r => ?_) (fun g d r => ?_) <;> rw [scT_diag m ρ c t hd]
  · exact (congrFun (read_sc0 c _).symm _).trans (step_A0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 (ix3 g 0 r))
  · exact (congrFun (read_sc1 c _).symm _).trans (step_A1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 (ix3 g 0 r))
  · exact (congrFun (read_sc2 c _).symm _).trans (step_A2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 (ix3 g d r))

/-- The statistics after the first tile of a query block, below the diagonal. -/
theorem holds_B (c : Dev nD) (t : Fin (cfgA 0).N) (s : St c) (q0 : P0_0 0 t) (q1 : P0_1 0 t) (hd : jI t < iI t) (hj : jI t = 0) :
    Holds m c t.val (jI t * 1024 + 1024) (step0 0 m ρ c t s).2.1 (step0 0 m ρ c t s).2.2.1 (step0 0 m ρ c t s).2.2.2 := by
  rw [step0_B 0 m ρ c t s q0 q1]
  dsimp only [st0_B]
  refine holds_step m ρ c t (fun _ => ⊥) (fun _ => 0) (fun _ => 0) (by rw [hj]; exact holds_zero m c t) _ _ _ (fun g r => ?_) (fun g r => ?_) (fun g d r => ?_) <;> rw [scT_full m ρ c t hd]
  · exact (congrFun (read_sc0 c _).symm _).trans (step_B0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_B 0 t q0 q1).1 (hypsR0_B 0 t q0 q1).2.1 (hypsR0_B 0 t q0 q1).2.2.1 (hypsR0_B 0 t q0 q1).2.2.2.1 (ix3 g 0 r))
  · exact (congrFun (read_sc1 c _).symm _).trans (step_B1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_B 0 t q0 q1).1 (hypsR0_B 0 t q0 q1).2.1 (hypsR0_B 0 t q0 q1).2.2.1 (hypsR0_B 0 t q0 q1).2.2.2.1 (ix3 g 0 r))
  · exact (congrFun (read_sc2 c _).symm _).trans (step_B2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_B 0 t q0 q1).1 (hypsR0_B 0 t q0 q1).2.1 (hypsR0_B 0 t q0 q1).2.2.1 (hypsR0_B 0 t q0 q1).2.2.2.1 (ix3 g d r))

/-- The statistics after a later tile, on the diagonal. -/
theorem holds_C (c : Dev nD) (t : Fin (cfgA 0).N) (s : St c) (q0 : ¬ P0_0 0 t) (q1 : ¬ P0_1 0 t) (hd : ¬ jI t < iI t) (hp : Holds m c t.val (jI t * 1024) s.2.1 s.2.2.1 s.2.2.2) :
    Holds m c t.val (jI t * 1024 + 1024) (step0 0 m ρ c t s).2.1 (step0 0 m ρ c t s).2.2.1 (step0 0 m ρ c t s).2.2.2 := by
  rw [step0_C 0 m ρ c t s q0 q1]
  dsimp only [st0_C]
  refine holds_step m ρ c t s.2.1 s.2.2.1 s.2.2.2 hp _ _ _ (fun g r => ?_) (fun g r => ?_) (fun g d r => ?_) <;> rw [scT_diag m ρ c t hd]
  · exact (congrFun (read_sc0 c _).symm _).trans (step_C0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 (ix3 g 0 r))
  · exact (congrFun (read_sc1 c _).symm _).trans (step_C1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 (ix3 g 0 r))
  · exact (congrFun (read_sc2 c _).symm _).trans (step_C2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 (ix3 g d r))

/-- The statistics after a later tile, below the diagonal. -/
theorem holds_D (c : Dev nD) (t : Fin (cfgA 0).N) (s : St c) (q0 : ¬ P0_0 0 t) (q1 : P0_1 0 t) (hd : jI t < iI t) (hp : Holds m c t.val (jI t * 1024) s.2.1 s.2.2.1 s.2.2.2) :
    Holds m c t.val (jI t * 1024 + 1024) (step0 0 m ρ c t s).2.1 (step0 0 m ρ c t s).2.2.1 (step0 0 m ρ c t s).2.2.2 := by
  rw [step0_D 0 m ρ c t s q0 q1]
  dsimp only [st0_D]
  refine holds_step m ρ c t s.2.1 s.2.2.1 s.2.2.2 hp _ _ _ (fun g r => ?_) (fun g r => ?_) (fun g d r => ?_) <;> rw [scT_full m ρ c t hd]
  · exact (congrFun (read_sc0 c _).symm _).trans (step_D0 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_D 0 t q0 q1).1 (hypsR0_D 0 t q0 q1).2.1 (hypsR0_D 0 t q0 q1).2.2.1 (hypsR0_D 0 t q0 q1).2.2.2.1 (ix3 g 0 r))
  · exact (congrFun (read_sc1 c _).symm _).trans (step_D1 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_D 0 t q0 q1).1 (hypsR0_D 0 t q0 q1).2.1 (hypsR0_D 0 t q0 q1).2.2.1 (hypsR0_D 0 t q0 q1).2.2.2.1 (ix3 g 0 r))
  · exact (congrFun (read_sc2 c _).symm _).trans (step_D2 c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_D 0 t q0 q1).1 (hypsR0_D 0 t q0 q1).2.1 (hypsR0_D 0 t q0 q1).2.2.1 (hypsR0_D 0 t q0 q1).2.2.2.1 (ix3 g d r))

/-- One point of the trajectory carries the statistics on, whichever path it takes. -/
theorem step_holds (c : Dev nD) (t : Fin (cfgA 0).N) (s : St c)
    (hp : jI t ≠ 0 → Holds m c t.val (jI t * 1024) s.2.1 s.2.2.1 s.2.2.2) :
    Holds m c t.val (jI t * 1024 + 1024) (step0 0 m ρ c t s).2.1 (step0 0 m ρ c t s).2.2.1 (step0 0 m ρ c t s).2.2.2 := by
  obtain ⟨f0, f1, -, -, -, -, -, -⟩ := tileFacts t
  by_cases q0 : P0_0 0 t <;> by_cases q1 : P0_1 0 t
  · exact holds_B m ρ c t s q0 q1 (f1.mp q1) (f0.mp q0)
  · exact holds_A m ρ c t s q0 q1 (fun hh => q1 (f1.mpr hh)) (f0.mp q0)
  · exact holds_D m ρ c t s q0 q1 (f1.mp q1) (hp fun e => q0 (f0.mpr e))
  · exact holds_C m ρ c t s q0 q1 (fun hh => q1 (f1.mpr hh)) (hp fun e => q0 (f0.mpr e))

/-- What the scratches hold before a point that is not its query block's first, from what the point before left. -/
theorem prev_holds (c : Dev nD) (t : Fin (cfgA 0).N) (ej : jI t ≠ 0)
    (ih : ∀ u : Fin (cfgA 0).N, u.val < t.val → Holds m c u.val (jI u * 1024 + 1024) (traj0 0 m ρ c u.val u.isLt).2.1 (traj0 0 m ρ c u.val u.isLt).2.2.1 (traj0 0 m ρ c u.val u.isLt).2.2.2) :
    Holds m c t.val (jI t * 1024) (prev0 0 m ρ c t).2.1 (prev0 0 m ρ c t).2.2.1 (prev0 0 m ρ c t).2.2.2 := by
  obtain ⟨p0, p1, p2, p3, p4⟩ := prevFacts (t.cast N_eq) ej
  simp only [Fin.val_cast] at p0 p1 p2 p3 p4
  have hlt : t.val - 1 < (cfgA 0).N := by omega
  have := ih ⟨t.val - 1, hlt⟩ (by show t.val - 1 < t.val; omega)
  unfold prev0
  rw [dif_neg p0]
  intro b h q g r eb eh eq
  have e := this b h q g r (by rw [eb, ← p1]) (by rw [eh, ← p2]) (by rw [eq, ← p3])
  rw [show jI t * 1024 = jI (t.val - 1) * 1024 + 1024 by omega]
  exact e

/-- After every point the scratches hold the statistics over the keys seen so far. -/
theorem traj_holds (c : Dev nD) : ∀ (n : ℕ) (hn : n < (cfgA 0).N), Holds m c n (jI n * 1024 + 1024) (traj0 0 m ρ c n hn).2.1 (traj0 0 m ρ c n hn).2.2.1 (traj0 0 m ρ c n hn).2.2.2 := by
  intro n
  induction n using Nat.strong_induction_on with
  | _ n ih =>
    intro hn
    have e := traj0_eq 0 m ρ c ⟨n, hn⟩
    simp only at e
    rw [e]
    exact step_holds m ρ c ⟨n, hn⟩ _ fun ej => prev_holds m ρ c ⟨n, hn⟩ ej fun u hu => ih u.val hu u.isLt

end Cert.Kernel2Ideal.Diff
end
-- ==== Proof.DiffIdeal.After.lean ====
module
public import proofs.«01_k».proof.Proof.DiffIdeal.Traj
public import Idealize.ShloMosaic.Lib.WordCmp
@[expose] public section
set_option maxRecDepth 16384
noncomputable section
namespace Cert.Kernel2Ideal.Diff
open Cert.Kernel2Ideal Cert.Kernel2Ideal.Gen
open Idealize.ShloMosaic
open Idealize.ShloMosaic.TcCoe Idealize.ShloMosaic.Tactic
open Cert.Online (mx ls ac sg vl)

variable (m : (ℓ : Loc nD τ sig) → Buf (Elt Ideal) ℓ) (ρ : Dev nD → PrngReg)

/-- The row of values that row `w` of the result weighs: the four value heads serve both maps. -/
def vrow (w : Fin 1024) : Fin 512 := ⟨w.val / 128 % 4 * 128 + w.val % 128, by omega⟩

/-- What the call computes: the weighted sum of values over the sum of powers, of each query over all its keys. -/
def spec (c : Dev nD) (b : Fin 2) (w : Fin 1024) (q : Fin 8192) : EReal :=
  Ideal.div (ac (sgv m c b ⟨w.val / 128, by omega⟩ q) (vlv m c b (vrow w)) 8192) (ls (sgv m c b ⟨w.val / 128, by omega⟩ q) 8192)

/-- The output block at a diagonal point, from the statistics it leaves. -/
theorem out_eq (c : Dev nD) (t : Fin (cfgA 0).N) (ed : ¬ jI t < iI t) (pm pl : SM) (pa : SA) (hp : Holds m c t.val (jI t * 1024) pm pl pa)
    (g : Fin 2) (d : Fin 128) (r : Fin 1024) (b : Fin 2) (w : Fin 1024) (q : Fin 8192)
    (eb : b.val = bI t) (ew : w.val = hI t * 256 + (g.val * 128 + d.val)) (eq : q.val = iI t * 1024 + r.val) :
    Ideal.div (newA (scT m ρ c t) (iblk 0 m ρ c 2 t) pm pa g d r) (newL (scT m ρ c t) pm pl g r) = spec m c b w q := by
  obtain ⟨-, -, f2, f3, f4, f5, -, -⟩ := tileFacts t
  have hh : w.val / 128 = hI t * 2 + g.val := by omega
  obtain ⟨-, h1, h2⟩ := holds_step m ρ c t pm pl pa hp (fun y => newM (scT m ρ c t) pm (y 0) (y 2)) (fun y => newL (scT m ρ c t) pm pl (y 0) (y 2))
    (fun y => newA (scT m ρ c t) (iblk 0 m ρ c 2 t) pm pa (y 0) (y 1) (y 2)) (fun _ _ => rfl) (fun _ _ => rfl) (fun _ _ _ => rfl)
    b ⟨w.val / 128, by omega⟩ q g r eb hh eq
  have h3 := h2 d (vrow w) (by show w.val / 128 % 4 * 128 + w.val % 128 = w.val / 128 % 4 * 128 + d.val; omega)
  obtain ⟨-, t1, t2⟩ := Online.tail_bot (sgv m c b ⟨w.val / 128, by omega⟩ q) (vlv m c b (vrow w)) (jI t * 1024 + 1024) 8192 (by omega)
    (fun k hk => Online.sg_of_lt _ _ _ (by omega))
  unfold spec
  rw [t1, t2]
  exact congrArg₂ Ideal.div h3 h1

/-- What the first tile of a query block, on the diagonal, leaves in its output block. -/
theorem after_A (c : Dev nD) (t : Fin (cfgA 0).N) (s : St c) (q0 : P0_0 0 t) (q1 : ¬ P0_1 0 t) (hd : ¬ jI t < iI t) (hj : jI t = 0)
    (y : S1x256x1024.Idx) (b : Fin 2) (w : Fin 1024) (q : Fin 8192) (eb : b.val = bI t) (ew : w.val = hI t * 256 + (y 1).val) (eq : q.val = iI t * 1024 + (y 2).val) :
    (step0 0 m ρ c t s).1 y = spec m c b w q := by
  have hy : (y 1).val < 256 := (y 1).isLt
  have e1 : (y 1).val = (y 1).val / 128 * 128 + (y 1).val % 128 := by omega
  rw [step0_A 0 m ρ c t s q0 q1]
  dsimp only [st0_A]
  have e := step_Aout c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) (hypsR0_A 0 t q0 q1).1 (hypsR0_A 0 t q0 q1).2.1 (hypsR0_A 0 t q0 q1).2.2.1 (hypsR0_A 0 t q0 q1).2.2.2.1 y ⟨(y 1).val / 128, by omega⟩ ⟨(y 1).val % 128, by omega⟩ e1
  rw [← scT_diag m ρ c t hd] at e
  have e2 := out_eq m ρ c t hd (fun _ => ⊥) (fun _ => 0) (fun _ => 0) (by rw [hj]; exact holds_zero m c t) ⟨(y 1).val / 128, by omega⟩ ⟨(y 1).val % 128, by omega⟩ (y 2) b w q eb (by rw [ew]; exact congrArg (hI t * 256 + ·) e1) eq
  exact e.trans e2

/-- What a later tile, on the diagonal, leaves in its output block. -/
theorem after_C (c : Dev nD) (t : Fin (cfgA 0).N) (s : St c) (q0 : ¬ P0_0 0 t) (q1 : ¬ P0_1 0 t) (hd : ¬ jI t < iI t) (hp : Holds m c t.val (jI t * 1024) s.2.1 s.2.2.1 s.2.2.2)
    (y : S1x256x1024.Idx) (b : Fin 2) (w : Fin 1024) (q : Fin 8192) (eb : b.val = bI t) (ew : w.val = hI t * 256 + (y 1).val) (eq : q.val = iI t * 1024 + (y 2).val) :
    (step0 0 m ρ c t s).1 y = spec m c b w q := by
  have hy : (y 1).val < 256 := (y 1).isLt
  have e1 : (y 1).val = (y 1).val / 128 * 128 + (y 1).val % 128 := by omega
  rw [step0_C 0 m ρ c t s q0 q1]
  dsimp only [st0_C]
  have e := step_Cout c (crd 0 t) _ (hs0_0 0 t) _ (hs0_1 0 t) _ (hs0_2 0 t) _ (hs0_3 0 t) (pinT_0 0) (pinT_1 0) (pinT_2 0) (iblk 0 m ρ c 0 t) (iblk 0 m ρ c 1 t) (iblk 0 m ρ c 2 t) s.2.1 s.2.2.1 s.2.2.2 (hypsR0_C 0 t q0 q1).1 (hypsR0_C 0 t q0 q1).2.1 (hypsR0_C 0 t q0 q1).2.2.1 (hypsR0_C 0 t q0 q1).2.2.2.1 y ⟨(y 1).val / 128, by omega⟩ ⟨(y 1).val % 128, by omega⟩ e1
  rw [← scT_diag m ρ c t hd] at e
  have e2 := out_eq m ρ c t hd s.2.1 s.2.2.1 s.2.2.2 hp ⟨(y 1).val / 128, by omega⟩ ⟨(y 1).val % 128, by omega⟩ (y 2) b w q eb (by rw [ew]; exact congrArg (hI t * 256 + ·) e1) eq
  exact e.trans e2

/-- What a point that writes its output block back leaves in it. -/
theorem after_eq (c : Dev nD) (t : Fin (cfgA 0).N) (hf : ((cfgA 0).win 3).flush t = true) (y : S1x256x1024.Idx) (b : Fin 2) (w : Fin 1024) (q : Fin 8192)
    (eb : b.val = bI t) (ew : w.val = hI t * 256 + (y 1).val) (eq : q.val = iI t * 1024 + (y 2).val) :
    (traj0 0 m ρ c t.val t.isLt).1 y = spec m c b w q := by
  obtain ⟨f0, f1, -, -, -, -, -, -⟩ := tileFacts t
  have q1 : ¬ P0_1 0 t := by
    intro q1
    by_cases q0 : P0_0 0 t
    · exact absurd hf (by rw [(sched0_B 0 t q0 q1).2.1]; decide)
    · exact absurd hf (by rw [(sched0_D 0 t q0 q1).2.1]; decide)
  have ed : ¬ jI t < iI t := fun hh => q1 (f1.mpr hh)
  rw [traj0_eq]
  by_cases q0 : P0_0 0 t
  · exact after_A m ρ c t _ q0 q1 ed (f0.mp q0) y b w q eb ew eq
  · exact after_C m ρ c t _ q0 q1 ed (prev_holds m ρ c t (fun e => q0 (f0.mpr e)) fun u _ => traj_holds m ρ c u.val u.isLt) y b w q eb ew eq

/-- THE RESULT ARRAY of the launch: at every batch, row and query what `spec` says. -/
theorem final (c : Dev nD) : (dats 0 m ρ 0 c).arrAt (3 : Fin 4) (cfgA 0).N = fun y : S2x1024x8192.Idx => spec m c (y 0) (y 1) (y 2) := by
  refine (dats 0 m ρ 0 c).arrAt_eq_of_covers 3 _ (by decide +kernel) fun t hf y => ?_
  blk_simp
  rw [after0_3]
  refine after_eq m ρ c t hf y _ _ _ ?_ ?_ ?_ <;> blk_simp [idx3 t]

end Cert.Kernel2Ideal.Diff
end
-- ==== Proof.DiffRef.lean ====
module
public import proofs.«01_k».proof.Proof.Gen.Reference2Ideal.Run
public import Idealize.ShloMosaic.Lib.Pointwise
public import Idealize.ShloMosaic.Lib.WordCmp
public import proofs.«01_k».proof.Proof.Online
@[expose] public section
set_option maxRecDepth 16384
noncomputable section
namespace Cert.Reference2Ideal.Diff
open Cert.Reference2Ideal Cert.Reference2Ideal.Gen Cert.Reference2Ideal.Value
open Idealize.ShloMosaic
open Idealize.ShloMosaic.TcCoe Idealize.ShloMosaic.Tactic

theorem negInf : Ideal.ofBits .f32 0xFF800000#32 = ⊥ := by simp [Ideal.ofBits, Ideal.ieee]
theorem two : Ideal.ofBits .f32 0x40000000#32 = ((2 : ℝ) : EReal) := by
  simp [Ideal.ofBits, Ideal.ieee]; rw [← EReal.coe_mul]; norm_num

/-- An index of rank three is made of its coordinates. -/
theorem idx3_eta {s0 s1 s2 : ℕ} (y : (⟨3, ![s0, s1, s2]⟩ : Shape).Idx) : y = ix3 (y 0) (y 1) (y 2) := by
  funext k
  match k with
  | 0 => rfl
  | 1 => rfl
  | 2 => rfl

theorem log_two : Ideal.log ((2 : ℝ) : EReal) = Online.ln2 := by
  show (if (2 : ℝ) ≤ 0 then (⊥ : EReal) else (Real.log 2 : EReal)) = _
  rw [if_neg (by norm_num)]; rfl

/-- An array of queries or of keys. -/
abbrev XQ := FVec Ideal S2x8x8192x128 .bf16
/-- The array of values. -/
abbrev XV := FVec Ideal S2x512x8192 .bf16

/-! ## The reference's intermediate arrays -/

/-- The masked scores. -/
def Sc (Q K : XQ) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S2x8x8192x128_S2x8x8192x128_S2x8x8192x8192_3_3_2_2_01_01 none (extf .f32 Q bitsLt_bf16_f32) (extf .f32 K bitsLt_bf16_f32)) (broadcastInDim S2x8x8192x8192 ![] bcast_S_S2x8x8192x8192 (Host.log (constant S_ .f32 0x40000000#32)))) (broadcastInDim S2x8x8192x8192 ![] bcast_S_S2x8x8192x8192 (id (constant S_ .f32 0xFF800000#32)))
/-- The greatest score of each query. -/
def Mx (Q K : XQ) : FVec Ideal S2x8x8192 .f32 :=
  Host.reduce FloatOps.maximumf (Sc Q K) (constant S_ .f32 0xFF800000#32) reducesTo_S2x8x8192x8192_S2x8x8192_d3 h_S_
/-- The exponentials of the scores less their maximum. -/
def Pr (Q K : XQ) : FVec Ideal S2x8x8192x8192 .f32 :=
  Host.exp (subf (Sc Q K) (broadcastInDim S2x8x8192x8192 ![0, 1, 2, 3] bcast_S2x8x8192x1_S2x8x8192x8192_0_1_2_3 (broadcastInDim S2x8x8192x1 ![0, 1, 2] bcast_S2x8x8192_S2x8x8192x1_0_1_2 (Mx Q K))))
/-- The sums of the exponentials. -/
def Dn (Q K : XQ) : FVec Ideal S2x8x8192 .f32 :=
  Host.reduceAdd (Pr Q K) (constant S_ .f32 0x00000000#32) reducesTo_S2x8x8192x8192_S2x8x8192_d3 h_S_
/-- The values a head at a time: four heads, taken by the first four query heads and by the last four. -/
def V8 (V : XV) : FVec Ideal S2x8x128x8192 .f32 :=
  concatenate S2x8x128x8192 1 [⟨S2x4x128x8192, (shapeCast _ (extf .f32 V bitsLt_bf16_f32) shapeCasts_S2x512x8192_S2x4x128x8192)⟩, ⟨S2x4x128x8192, (shapeCast _ (extf .f32 V bitsLt_bf16_f32) shapeCasts_S2x512x8192_S2x4x128x8192)⟩] concatenates_S2x4x128x8192_S2x4x128x8192_S2x8x128x8192_d1
/-- The sums of the values, weighted. -/
def Nm (Q K : XQ) (V : XV) : FVec Ideal S2x8x128x8192 .f32 :=
  Host.dotGeneral dot_S2x8x128x8192_S2x8x8192x8192_S2x8x128x8192_3_3_2_2_01_01 none (V8 V) (Pr Q K)

theorem res_split (m : (ℓ : Loc nD τ sig) → Buf (Elt Ideal) ℓ) (c : Dev nD) :
    res_main_v26 m c = shapeCast _ (Host.divf (Nm (m ((c.tc : Thread nD τ).loc main_arg0)) (m ((c.tc : Thread nD τ).loc main_arg1)) (m ((c.tc : Thread nD τ).loc main_arg2))) (broadcastInDim S2x8x128x8192 ![0, 1, 2, 3] bcast_S2x8x1x8192_S2x8x128x8192_0_1_2_3 (broadcastInDim S2x8x1x8192 ![0, 1, 3] bcast_S2x8x8192_S2x8x1x8192_0_1_3 (Dn (m ((c.tc : Thread nD τ).loc main_arg0)) (m ((c.tc : Thread nD τ).loc main_arg1)))))) shapeCasts_S2x8x128x8192_S2x1024x8192 := by
  unfold res_main_v26 Nm V8 Dn Pr Mx Sc; rfl

/-- One masked score. -/
theorem Sc_eq (Q K : XQ) (b : Fin 2) (h : Fin 8) (q k : Fin 8192) :
    Sc Q K (ix4 b h q k) = if k.val ≤ q.val then (∑ d, K (ix4 b h k d) * Q (ix4 b h q d)) * Online.ln2 else ⊥ := by
  unfold Sc
  pointwise [negInf, two]
  rw [log_two, show (id (constant (F := Ideal) S_ .f32 0xFF800000#32)) ix0 = ⊥ from negInf]
  unfold Scalar.select
  by_cases hle : k.val ≤ q.val
  · rw [if_pos hle]
    refine (if_pos ((WordCmp.cmpi_sle_ofNat_eq_one_iff (w := 32) (by omega) (by omega)).mpr hle)).trans ?_
    exact congrArg (· * Online.ln2) (Finset.sum_congr rfl fun d _ => mul_comm _ _)
  · rw [if_neg hle]
    exact if_neg fun e => hle ((WordCmp.cmpi_sle_ofNat_eq_one_iff (w := 32) (by omega) (by omega)).mp e)
theorem Mx_eq (Q K : XQ) (b : Fin 2) (h : Fin 8) (q : Fin 8192) :
    Mx Q K (ix3 b h q) = Finset.univ.fold max ⊥ fun k => Sc Q K (ix4 b h q k) := by
  unfold Mx
  pointwise [negInf, two]
theorem Pr_eq (Q K : XQ) (b : Fin 2) (h : Fin 8) (q k : Fin 8192) :
    Pr Q K (ix4 b h q k) = Ideal.exp (Sc Q K (ix4 b h q k) - Finset.univ.fold max ⊥ fun k => Sc Q K (ix4 b h q k)) := by
  unfold Pr
  pointwise [negInf, two, Mx_eq]
theorem Dn_eq (Q K : XQ) (b : Fin 2) (h : Fin 8) (q : Fin 8192) :
    Dn Q K (ix3 b h q) = ∑ k, Pr Q K (ix4 b h q k) := by
  unfold Dn
  pointwise [negInf, two]
theorem V8_eq (V : XV) (b : Fin 2) (h : Fin 8) (d : Fin 128) (k : Fin 8192) (w : Fin 512) (ew : w.val = h.val % 4 * 128 + d.val) :
    V8 V (ix4 b h d k) = V (ix3 b w k) := by
  have hb : h.val % 4 * 128 + d.val < 512 := by omega
  have ew' : w = ⟨h.val % 4 * 128 + d.val, hb⟩ := Fin.ext ew
  clear ew; subst ew'
  unfold V8
  pointwise []
  split
  next hl => exact congrArg V (congrArg (fun u => ix3 b u k) (Fin.ext (by show h.val * 128 + d.val = h.val % 4 * 128 + d.val; omega)))
  next hl => exact congrArg V (congrArg (fun u => ix3 b u k) (Fin.ext (by show (h.val - 4) * 128 + d.val = h.val % 4 * 128 + d.val; omega)))
theorem Nm_eq (Q K : XQ) (V : XV) (b : Fin 2) (h : Fin 8) (d : Fin 128) (q : Fin 8192) (w : Fin 512) (ew : w.val = h.val % 4 * 128 + d.val) :
    Nm Q K V (ix4 b h d q) = ∑ k, V (ix3 b w k) * Pr Q K (ix4 b h q k) := by
  have e : Nm Q K V (ix4 b h d q) = ∑ k, V8 V (ix4 b h d k) * Pr Q K (ix4 b h q k) := by
    unfold Nm
    pointwise [negInf, two]
  rw [e]
  exact Finset.sum_congr rfl fun k _ => by rw [V8_eq V b h d k w ew]
/-- The reference's result at one place, by the running statistics over all the keys. -/
theorem res_eq (m : (ℓ : Loc nD τ sig) → Buf (Elt Ideal) ℓ) (c : Dev nD) (Q K : XQ) (V : XV)
    (eQ : m ((c.tc : Thread nD τ).loc main_arg0) = Q) (eK : m ((c.tc : Thread nD τ).loc main_arg1) = K) (eV : m ((c.tc : Thread nD τ).loc main_arg2) = V)
    (b : Fin 2) (w : Fin 1024) (u : Fin 512) (eu : u.val = w.val / 128 % 4 * 128 + w.val % 128) (q : Fin 8192) :
    (res_main_v26 m c : FVec Ideal S2x1024x8192 .f32) (ix3 b w q)
      = Ideal.div (Online.ac (Online.sg (fun k => ∑ d, K (ix4 b ⟨w.val / 128, by omega⟩ k d) * Q (ix4 b ⟨w.val / 128, by omega⟩ q d)) q.val) (Online.vl fun k => V (ix3 b u k)) 8192)
        (Online.ls (Online.sg (fun k => ∑ d, K (ix4 b ⟨w.val / 128, by omega⟩ k d) * Q (ix4 b ⟨w.val / 128, by omega⟩ q d)) q.val) 8192) := by
  rw [res_split, eQ, eK, eV]
  refine Eq.trans ?_ (Online.softmax_eq (fun k => ∑ d, K (ix4 b ⟨w.val / 128, by omega⟩ k d) * Q (ix4 b ⟨w.val / 128, by omega⟩ q d)) (fun k => V (ix3 b u k)) q.val
    (fun k => Sc Q K (ix4 b ⟨w.val / 128, by omega⟩ q k)) fun k => Sc_eq Q K b _ q k)
  pointwise []
  rw [Nm_eq Q K V b ⟨w.val / 128, by omega⟩ ⟨w.val % 128, by omega⟩ q u eu, Dn_eq]
  simp only [Pr_eq]

end Cert.Reference2Ideal.Diff
end
-- ==== Proof.Norm.lean ====
module

public import Idealize.ShloMosaic.Lib.Pipeline.ValueKit
public import Idealize.ShloMosaic.Lib.Pointwise

@[expose] public section

noncomputable section

namespace Cert.Norm

open Idealize.ShloMosaic

/-- The factor of a root-mean-square normalisation: one over the root of the mean of the squares (their sum
    divided by `c`) plus the layer's small constant. -/
def scale {n : ℕ} (c : EReal) (f : Fin n → EReal) : EReal :=
  Ideal.rsqrt (Ideal.div (∑ i, f i * f i) c + Ideal.ofBits .f32 0x358637BD#32)

/-- The number 64. -/
abbrev c64 : EReal := Ideal.ofBits .f32 0x42800000#32
/-- The number 128. -/
abbrev c128 : EReal := Ideal.ofBits .f32 0x43000000#32
/-- The number 1024. -/
abbrev c1024 : EReal := Ideal.ofBits .f32 0x44800000#32

/-- Entry `k` of a row of 1024 after its normalisation with the gains `g`. -/
def row (x g : Fin 1024 → EReal) (k : Fin 1024) : EReal := x k * scale c1024 x * g k

/-- Entry `e` of a normalised row times a matrix. -/
def lin {n : ℕ} (x g : Fin 1024 → EReal) (w : Fin 1024 → Fin n → EReal) (e : Fin n) : EReal := ∑ k, row x g k * w k e

/-- Entry `j` of a row of 512 whose four heads of 128 are normalised one by one, with the gains `g`. -/
def heads128 (z : Fin 512 → EReal) (g : Fin 128 → EReal) (j : Fin 512) : EReal :=
  z j * scale c128 (fun d : Fin 128 => z ⟨(j : ℕ) / 128 * 128 + d, by omega⟩) * g ⟨(j : ℕ) % 128, by omega⟩

/-- Entry `j` of a row of 512 whose eight heads of 64 are normalised one by one, with the gains `g`. -/
def heads64 (z : Fin 512 → EReal) (g : Fin 64 → EReal) (j : Fin 512) : EReal :=
  z j * scale c64 (fun d : Fin 64 => z ⟨(j : ℕ) / 64 * 64 + d, by omega⟩) * g ⟨(j : ℕ) % 64, by omega⟩

/-- An entry of the four normalised heads, from its head's number and its place in the head. -/
theorem heads128_eq (z : Fin 512 → EReal) (g : Fin 128 → EReal) (j : Fin 512) (h : ℕ) (d : Fin 128) (f : Fin 128 → EReal)
    (e : EReal) (hj : (j : ℕ) = h * 128 + d) (hf : ∀ i : Fin 128, ∀ hi, f i = z ⟨h * 128 + i, hi⟩) (he : e = g d) :
    heads128 z g j = f d * scale c128 f * e := by
  have h1 : (j : ℕ) / 128 = h := by omega
  have h2 : (j : ℕ) % 128 = d := by omega
  have hb : h < 4 := by omega
  have e1 : (fun d : Fin 128 => z ⟨(j : ℕ) / 128 * 128 + d, by omega⟩) = f := by
    funext i
    rw [hf i (by omega)]
    exact congrArg z (Fin.ext (by show (j : ℕ) / 128 * 128 + i = h * 128 + i; rw [h1]))
  unfold heads128
  rw [e1, hf d (by omega), he]
  exact congrArg₂ (· * ·) (congrArg (· * scale c128 f) (congrArg z (Fin.ext hj))) (congrArg g (Fin.ext h2))

end Cert.Norm

end
-- ==== Proof.Memkv.Pay.lean ====
module

public import proofs.«01_k».proof.Proof.Gen.Kernel3Ideal.Frame
public import proofs.«01_k».proof.Proof.Norm

@[expose] public section

set_option maxRecDepth 16384

noncomputable section

namespace Cert.Kernel3Ideal.Memkv

open Cert.Kernel3Ideal Cert.Kernel3Ideal.Gen Idealize.ShloMosaic Idealize.ShloMosaic.TcCoe Idealize.SL.Sem Cert.Norm

/-- The product of the normalised rows and the weights, read at a row and a column. -/
theorem pay1_at (x0 : FVec Ideal S256x1024 .f32) (x1 : FVec Ideal S1x1024 .f32) (x2 : FVec Ideal S1024x1024 .bf16) (r : Fin 256) (e : Fin 1024) :
    k0_pay1 (F := Ideal) x0 x1 x2 (ix2 r e) = lin (fun k => x0 (ix2 r k)) (fun k => x1 (ix2 0 k)) (fun k e => x2 (ix2 k e)) e := by
  pointwise [k0_pay1, lin, row, scale]

/-- The normalised keys, read at a row and a column. -/
theorem keys_at (x0 : FVec Ideal S256x1024 .f32) (x1 : FVec Ideal S1x1024 .f32) (x2 : FVec Ideal S1024x1024 .bf16) (x3 : FVec Ideal S1x128 .f32) (r : Fin 256) (j : Fin 512) :
    k0_pay5 (F := Ideal) (k0_pay1 (F := Ideal) x0 x1 x2) (k0_pay2 (F := Ideal) x0 x1 x2 x3) (k0_pay3 (F := Ideal) x0 x1 x2) (k0_pay4 (F := Ideal) x0 x1 x2) (Ideal.ofBits .f32 0x358637BD#32) x3 x3 x3 (ix2 r j)
      = heads128 (fun i => k0_pay1 (F := Ideal) x0 x1 x2 (ix2 r (Fin.castLE (by decide) i))) (fun d => x3 (ix2 0 d)) j := by
  generalize hz : k0_pay1 (F := Ideal) x0 x1 x2 = z
  pointwise [k0_pay5, k0_pay4, k0_pay3, k0_pay2, hz]
  by_cases h1 : (j : ℕ) < 128
  · rw [dif_pos h1]
    exact (heads128_eq (fun i => z (ix2 r (Fin.castLE (by decide) i))) (fun d => x3 (ix2 0 d)) j 0 ⟨j, h1⟩ (fun i => z (ix2 r ⟨i, by omega⟩)) _ (by show (j : ℕ) = 0 * 128 + j; omega) (fun i hi => congrArg (fun k => z (ix2 r k)) (show (⟨(i : ℕ), by omega⟩ : Fin 1024) = ⟨0 * 128 + i, by omega⟩ from Fin.ext (by show (i : ℕ) = 0 * 128 + (i : ℕ); omega))) rfl).symm
  rw [dif_neg h1]
  by_cases h2 : (j : ℕ) - 128 < 128
  · rw [dif_pos h2]
    exact (heads128_eq (fun i => z (ix2 r (Fin.castLE (by decide) i))) (fun d => x3 (ix2 0 d)) j 1 ⟨j - 128, h2⟩ (fun i => z (ix2 r ⟨128 + i, by omega⟩)) _ (by show (j : ℕ) = 1 * 128 + (j - 128); omega) (fun i hi => congrArg (fun k => z (ix2 r k)) (show (⟨128 + (i : ℕ), by omega⟩ : Fin 1024) = ⟨1 * 128 + i, by omega⟩ from Fin.ext (by show 128 + (i : ℕ) = 1 * 128 + (i : ℕ); omega))) rfl).symm
  rw [dif_neg h2]
  by_cases h3 : (j : ℕ) - 128 - 128 < 128
  · rw [dif_pos h3]
    exact (heads128_eq (fun i => z (ix2 r (Fin.castLE (by decide) i))) (fun d => x3 (ix2 0 d)) j 2 ⟨j - 128 - 128, h3⟩ (fun i => z (ix2 r ⟨256 + i, by omega⟩)) _ (by show (j : ℕ) = 2 * 128 + (j - 128 - 128); omega) (fun i hi => congrArg (fun k => z (ix2 r k)) (show (⟨256 + (i : ℕ), by omega⟩ : Fin 1024) = ⟨2 * 128 + i, by omega⟩ from Fin.ext (by show 256 + (i : ℕ) = 2 * 128 + (i : ℕ); omega))) rfl).symm
  rw [dif_neg h3]
  exact (heads128_eq (fun i => z (ix2 r (Fin.castLE (by decide) i))) (fun d => x3 (ix2 0 d)) j 3 ⟨j - 128 - 128 - 128, by omega⟩ (fun i => z (ix2 r ⟨384 + i, by omega⟩)) _ (by show (j : ℕ) = 3 * 128 + (j - 128 - 128 - 128); omega) (fun i hi => congrArg (fun k => z (ix2 r k)) (show (⟨384 + (i : ℕ), by omega⟩ : Fin 1024) = ⟨3 * 128 + i, by omega⟩ from Fin.ext (by show 384 + (i : ℕ) = 3 * 128 + (i : ℕ); omega))) rfl).symm

/-- The values, read at a row and a column. -/
theorem vals_at (z : FVec Ideal S256x1024 .f32) (r : Fin 256) (j : Fin 512) :
    k0_pay6 (F := Ideal) z (ix2 r j) = z (ix2 r ⟨512 + j, by omega⟩) := by
  pointwise [k0_pay6]

end Cert.Kernel3Ideal.Memkv

end
-- ==== Proof.Memkv.Final.lean ====
module

public import proofs.«01_k».proof.Proof.Gen.Kernel3Ideal.Value
public import proofs.«01_k».proof.Proof.Memkv.Pay
public import Idealize.ShloMosaic.Lib.Pipeline.ValueKit
public import Idealize.ShloMosaic.Lib.Claim

@[expose] public section

set_option maxRecDepth 16384

noncomputable section

namespace Cert.Kernel3Ideal.Memkv

open Cert.Kernel3Ideal Cert.Kernel3Ideal.Gen Idealize.ShloMosaic Idealize.ShloMosaic.TcCoe Idealize.SL.Sem Cert.Norm

variable (m : (ℓ : Loc nD τ sig) → Buf (Elt Ideal) ℓ)

/-- The index maps: the rows and the results move with the point, the weights and the gains stay. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, _)

/-- A row of the block of rows at a point is a row of the batch entry the point handles. -/
theorem read0 (c : Dev nD) (t : Fin cfg0.N) (b : Fin 2) (hb : t.val = b.val) (r : Fin 256) (k : Fin 1024) :
    (iblk m c 0 t : FVec Ideal S256x1024 .f32) (ix2 r k) = (m ((c.tc : Thread nD τ).loc main_arg0) : FVec Ideal S2x256x1024 .f32) (ix3 b r k) := by
  blk_simp [iblk]
  entry_read
  pointwise []
  blk_ext [idx t, hb]

theorem read1 (c : Dev nD) (t : Fin cfg0.N) (k : Fin 1024) :
    (iblk m c 1 t : FVec Ideal S1x1024 .f32) (ix2 0 k) = (m ((c.tc : Thread nD τ).loc main_arg1) : FVec Ideal S1x1024 .f32) (ix2 0 k) := by
  blk_simp [iblk]
  entry_read
  pointwise []
  blk_ext [idx t]

theorem read2 (c : Dev nD) (t : Fin cfg0.N) (k e : Fin 1024) :
    (iblk m c 2 t : FVec Ideal S1024x1024 .bf16) (ix2 k e) = (m ((c.tc : Thread nD τ).loc main_arg2) : FVec Ideal S1x1024x1024 .f32) (ix3 0 k e) := by
  blk_simp [iblk]
  entry_read
  pointwise []
  blk_ext [idx t]

theorem read3 (c : Dev nD) (t : Fin cfg0.N) (k : Fin 128) :
    (iblk m c 3 t : FVec Ideal S1x128 .f32) (ix2 0 k) = (m ((c.tc : Thread nD τ).loc main_arg3) : FVec Ideal S1x128 .f32) (ix2 0 k) := by
  blk_simp [iblk]
  entry_read
  pointwise []
  blk_ext [idx t]

/-- The product at a row of a batch entry and a column. -/
def prod (c : Dev nD) (b : Fin 2) (r : Fin 256) (e : Fin 1024) : EReal :=
  lin (fun k => (m ((c.tc : Thread nD τ).loc main_arg0) : FVec Ideal S2x256x1024 .f32) (ix3 b r k)) (fun k => (m ((c.tc : Thread nD τ).loc main_arg1) : FVec Ideal S1x1024 .f32) (ix2 0 k)) (fun k e => (m ((c.tc : Thread nD τ).loc main_arg2) : FVec Ideal S1x1024x1024 .f32) (ix3 0 k e)) e
/-- A key. -/
def key (c : Dev nD) (b : Fin 2) (r : Fin 256) (j : Fin 512) : EReal :=
  heads128 (fun i => prod m c b r (Fin.castLE (by decide) i)) (fun d => (m ((c.tc : Thread nD τ).loc main_arg3) : FVec Ideal S1x128 .f32) (ix2 0 d)) j
/-- A value. -/
def val (c : Dev nD) (b : Fin 2) (r : Fin 256) (j : Fin 512) : EReal := prod m c b r ⟨512 + j, by omega⟩

/-- One key, at a place of its block. -/
theorem point4 (c : Dev nD) (t : Fin cfg0.N) (b : Fin 2) (hb : t.val = b.val) (r : Fin 256) (j : Fin 512) :
    k0_pay5 (F := Ideal) (k0_pay1 (F := Ideal) (iblk m c 0 t) (iblk m c 1 t) (iblk m c 2 t)) (k0_pay2 (F := Ideal) (iblk m c 0 t) (iblk m c 1 t) (iblk m c 2 t) (iblk m c 3 t)) (k0_pay3 (F := Ideal) (iblk m c 0 t) (iblk m c 1 t) (iblk m c 2 t)) (k0_pay4 (F := Ideal) (iblk m c 0 t) (iblk m c 1 t) (iblk m c 2 t)) (Ideal.ofBits .f32 0x358637BD#32) (iblk m c 3 t) (iblk m c 3 t) (iblk m c 3 t) (ix2 r j)
      = key m c b r j := by
  rw [keys_at]
  unfold key prod
  simp only [pay1_at, read0 m c t b hb, read1, read2, read3]

/-- One value, at a place of its block. -/
theorem point5 (c : Dev nD) (t : Fin cfg0.N) (b : Fin 2) (hb : t.val = b.val) (r : Fin 256) (j : Fin 512) :
    k0_pay6 (F := Ideal) (k0_pay1 (F := Ideal) (iblk m c 0 t) (iblk m c 1 t) (iblk m c 2 t)) (ix2 r j) = val m c b r j := by
  rw [vals_at]
  unfold val prod
  simp only [pay1_at, read0 m c t b hb, read1, read2, read3]

theorem pay7_eq (x0 : FVec Ideal S256x1024 .f32) (x1 : FVec Ideal S1x1024 .f32) (x2 : FVec Ideal S1024x1024 .bf16) (x3 : FVec Ideal S1x128 .f32) :
    k0_pay7 (F := Ideal) x0 x1 x2 x3 = k0_pay1 (F := Ideal) x0 x1 x2 := by
  unfold k0_pay7
  exact congr (congr (congrArg (k0_pay1 (F := Ideal)) (View.ld_unit_zero (Val := Elt Ideal) (S := S256x1024) (e := .f32) (by decide) _ x0)) (View.ld_unit_zero (Val := Elt Ideal) (S := S1x1024) (e := .f32) (by decide) _ x1)) (View.ld_unit_zero (Val := Elt Ideal) (S := S1024x1024) (e := .bf16) (by decide) _ x2)

/-- One key, at its place in the array. -/
theorem at4 (c : Dev nD) (t : Fin cfg0.N) (y0 : Fin 256) (y1 : Fin 512) (b : Fin 2) (r : Fin 256) (j : Fin 512) (hb : t.val = b.val) (hr : y0.val = r.val) (hj : y1.val = j.val) :
    k0_pay5 (F := Ideal) (k0_pay7 (F := Ideal) (iblk m c 0 t) (iblk m c 1 t) (iblk m c 2 t) (iblk m c 3 t)) (k0_pay2 (F := Ideal) (iblk m c 0 t) (iblk m c 1 t) (iblk m c 2 t) (iblk m c 3 t)) (k0_pay3 (F := Ideal) (iblk m c 0 t) (iblk m c 1 t) (iblk m c 2 t)) (k0_pay4 (F := Ideal) (iblk m c 0 t) (iblk m c 1 t) (iblk m c 2 t)) (Ideal.ofBits .f32 0x358637BD#32) (iblk m c 3 t) (iblk m c 3 t) (iblk m c 3 t) (ix2 y0 y1) = key m c b r j := by
  obtain rfl := Fin.ext hr
  obtain rfl := Fin.ext hj
  rw [pay7_eq]
  exact point4 m c t b hb y0 y1

/-- One value, at its place in the array. -/
theorem at5 (c : Dev nD) (t : Fin cfg0.N) (y0 : Fin 256) (y1 : Fin 512) (b : Fin 2) (r : Fin 256) (j : Fin 512) (hb : t.val = b.val) (hr : y0.val = r.val) (hj : y1.val = j.val) :
    k0_pay6 (F := Ideal) (k0_pay7 (F := Ideal) (iblk m c 0 t) (iblk m c 1 t) (iblk m c 2 t) (iblk m c 3 t)) (ix2 y0 y1) = val m c b r j := by
  obtain rfl := Fin.ext hr
  obtain rfl := Fin.ext hj
  rw [pay7_eq]
  exact point5 m c t b hb y0 y1

/-- The array of keys after the run. -/
theorem final4 (c : Dev nD) : ((dats m 0 c).arrAt 4 cfg0.N : FVec Ideal S512x512 .f32) = fun y => key m c ⟨(y 0).val / 256, by have := (y 0).isLt; change (y 0).val < 512 at this; omega⟩ ⟨(y 0).val % 256, by omega⟩ (y 1) := by
  refine (dats m 0 c).arrAt_eq_of_covers 4 _ (by decide +kernel) fun t _ y => ?_
  blk_simp
  rw [after0_4]
  frame_out
  idx_vars y
  refine at4 m c t y0 y1 _ _ _ ?_ ?_ ?_ <;> blk_simp [idx t]
  · show t.val = (t.val * 256 + y0.val) / 256; omega
  · show y0.val = (t.val * 256 + y0.val) % 256; omega

/-- The array of values after the run. -/
theorem final5 (c : Dev nD) : ((dats m 0 c).arrAt 5 cfg0.N : FVec Ideal S512x512 .f32) = fun y => val m c ⟨(y 0).val / 256, by have := (y 0).isLt; change (y 0).val < 512 at this; omega⟩ ⟨(y 0).val % 256, by omega⟩ (y 1) := by
  refine (dats m 0 c).arrAt_eq_of_covers 5 _ (by decide +kernel) fun t _ y => ?_
  blk_simp
  rw [after0_5]
  frame_out
  idx_vars y
  refine at5 m c t y0 y1 _ _ _ ?_ ?_ ?_ <;> blk_simp [idx t]
  · show t.val = (t.val * 256 + y0.val) / 256; omega
  · show y0.val = (t.val * 256 + y0.val) % 256; omega

end Cert.Kernel3Ideal.Memkv

end
-- ==== Proof.Memkv.Ref.lean ====
module

public import proofs.«01_k».proof.Proof.Gen.Reference3Ideal.Run
public import proofs.«01_k».proof.Proof.Norm
public import Idealize.ShloMosaic.Lib.Pointwise

@[expose] public section

set_option maxRecDepth 16384

noncomputable section

namespace Cert.Reference3Ideal.Memkv

open Cert.Reference3Ideal Cert.Reference3Ideal.Gen Idealize.ShloMosaic Idealize.ShloMosaic.TcCoe Idealize.SL.Sem Cert.Norm

/-! ## The reference's intermediate arrays -/

/-- The normalised rows. -/
def Xn (X : FVec Ideal S2x256x1024 .f32) (G : FVec Ideal S1x1024 .f32) : FVec Ideal S2x256x1024 .f32 :=
  mulf (mulf X (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf X X) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 (shapeCast _ G shapeCasts_S1x1024_S1024)))
/-- The normalised rows times the weights. -/
def Z (X : FVec Ideal S2x256x1024 .f32) (G : FVec Ideal S1x1024 .f32) (W : FVec Ideal S1x1024x1024 .f32) : FVec Ideal S2x256x1024 .f32 :=
  Host.dotGeneral dot_S2x256x1024_S1024x1024_S2x256x1024_2_0_01_1_n_n none (Xn X G) (shapeCast _ W shapeCasts_S1x1024x1024_S1024x1024)
/-- Four normalised heads. -/
def Hn (z : FVec Ideal S2x256x4x128 .f32) (g : FVec Ideal S1x128 .f32) : FVec Ideal S2x256x4x128 .f32 :=
  mulf (mulf z (broadcastInDim S2x256x4x128 ![0, 1, 2, 3] bcast_S2x256x4x1_S2x256x4x128_0_1_2_3 (Host.rsqrt (addf (Host.divf (broadcastInDim S2x256x4x1 ![0, 1, 2] bcast_S2x256x4_S2x256x4x1_0_1_2 (Host.reduceAdd (mulf z z) (constant S_ .f32 0x00000000#32) reducesTo_S2x256x4x128_S2x256x4_d3 h_S_)) (broadcastInDim S2x256x4x1 ![] bcast_S_S2x256x4x1 (constant S_ .f32 0x43000000#32))) (broadcastInDim S2x256x4x1 ![] bcast_S_S2x256x4x1 (constant S_ .f32 0x358637BD#32)))))) (broadcastInDim S2x256x4x128 ![0, 1, 2, 3] bcast_S1x1x1x128_S2x256x4x128_0_1_2_3 (broadcastInDim S1x1x1x128 ![3] bcast_S128_S1x1x1x128_3 (shapeCast _ g shapeCasts_S1x128_S128)))
/-- The keys' columns of the product, head by head. -/
def Zh (z : FVec Ideal S2x256x1024 .f32) : FVec Ideal S2x256x4x128 .f32 :=
  shapeCast _ (extractStridedSlice S2x256x512 ![0, 0, 0] z slices_S2x256x1024_S2x256x512_0_0_0) shapeCasts_S2x256x512_S2x256x4x128
/-- The keys. -/
def Keys (X : FVec Ideal S2x256x1024 .f32) (G : FVec Ideal S1x1024 .f32) (W : FVec Ideal S1x1024x1024 .f32) (g : FVec Ideal S1x128 .f32) : FVec Ideal S512x512 .f32 :=
  shapeCast _ (Hn (Zh (Z X G W)) g) shapeCasts_S2x256x4x128_S512x512
/-- The values. -/
def Vals (X : FVec Ideal S2x256x1024 .f32) (G : FVec Ideal S1x1024 .f32) (W : FVec Ideal S1x1024x1024 .f32) : FVec Ideal S512x512 .f32 :=
  shapeCast _ (extractStridedSlice S2x256x512 ![0, 0, 512] (Z X G W) slices_S2x256x1024_S2x256x512_0_0_512) shapeCasts_S2x256x512_S512x512

/-- One entry of the product. -/
theorem Z_eq (X : FVec Ideal S2x256x1024 .f32) (G : FVec Ideal S1x1024 .f32) (W : FVec Ideal S1x1024x1024 .f32) (b : Fin 2) (t : Fin 256) (e : Fin 1024) :
    Z X G W (ix3 b t e) = lin (fun k => X (ix3 b t k)) (fun k => G (ix2 0 k)) (fun k e => W (ix3 0 k e)) e := by
  pointwise [Z, Xn, lin, row, scale]

/-- One entry of the normalised heads. -/
theorem Hn_eq (z : FVec Ideal S2x256x4x128 .f32) (g : FVec Ideal S1x128 .f32) (b : Fin 2) (t : Fin 256) (h : Fin 4) (d : Fin 128) :
    Hn z g (ix4 b t h d) = z (ix4 b t h d) * scale c128 (fun d => z (ix4 b t h d)) * g (ix2 0 d) := by
  pointwise [Hn, scale]

/-- One value. -/
theorem Vals_eq (X : FVec Ideal S2x256x1024 .f32) (G : FVec Ideal S1x1024 .f32) (W : FVec Ideal S1x1024x1024 .f32) (b : Fin 2) (t : Fin 256) (r j : Fin 512) (hr : (r : ℕ) = b * 256 + t) :
    Vals X G W (ix2 r j) = Z X G W (ix3 b t ⟨512 + j, by omega⟩) := by
  have hb : (b : ℕ) * 256 + t < 512 := by omega
  obtain rfl : r = ⟨b * 256 + t, hb⟩ := Fin.ext hr
  pointwise [Vals]

/-- One key. -/
theorem Keys_eq (X : FVec Ideal S2x256x1024 .f32) (G : FVec Ideal S1x1024 .f32) (W : FVec Ideal S1x1024x1024 .f32) (g : FVec Ideal S1x128 .f32) (b : Fin 2) (t : Fin 256) (r j : Fin 512) (hr : (r : ℕ) = b * 256 + t) :
    Keys X G W g (ix2 r j) = heads128 (fun i => Z X G W (ix3 b t (Fin.castLE (by decide) i))) (fun d => g (ix2 0 d)) j := by
  have hb : (b : ℕ) * 256 + t < 512 := by omega
  obtain ⟨h, d, hj⟩ : ∃ (h : Fin 4) (d : Fin 128), (j : ℕ) = h * 128 + d := ⟨⟨j / 128, by omega⟩, ⟨j % 128, by omega⟩, by show (j : ℕ) = j / 128 * 128 + j % 128; omega⟩
  have hb2 : (h : ℕ) * 128 + d < 512 := by omega
  obtain rfl : j = ⟨h * 128 + d, hb2⟩ := Fin.ext hj
  obtain rfl : r = ⟨b * 256 + t, hb⟩ := Fin.ext hr
  have e : Keys X G W g (ix2 ⟨b * 256 + t, hb⟩ ⟨h * 128 + d, by omega⟩) = Hn (Zh (Z X G W)) g (ix4 b t h d) := by
    pointwise [Keys]
  rw [e, Hn_eq]
  have ez : ∀ d : Fin 128, Zh (Z X G W) (ix4 b t h d) = Z X G W (ix3 b t ⟨h * 128 + d, by omega⟩) := fun d => by
    pointwise [Zh]
  rw [show (fun d => Zh (Z X G W) (ix4 b t h d)) = (fun d : Fin 128 => Z X G W (ix3 b t ⟨h * 128 + d, by omega⟩)) from funext ez, ez d]
  exact (heads128_eq (fun i => Z X G W (ix3 b t (Fin.castLE (by decide) i))) (fun d => g (ix2 0 d)) ⟨h * 128 + d, by omega⟩ h d (fun d => Z X G W (ix3 b t ⟨h * 128 + d, by omega⟩)) (g (ix2 0 d)) rfl (fun i hi => rfl) rfl).symm

end Cert.Reference3Ideal.Memkv

end
-- ==== Proof.Memkv.Run.lean ====
module
public import proofs.«01_k».proof.Proof.Memkv.Ref
@[expose] public section
set_option maxRecDepth 16384
noncomputable section
namespace Cert.Reference3Ideal.Memkv
open Cert.Reference3Ideal Cert.Reference3Ideal.Gen Cert.Reference3Ideal.Value
open Idealize.ShloMosaic Idealize.SL.Sem
open Idealize.ShloMosaic.TcCoe Idealize.ShloMosaic.Tactic
open Cert.Norm

/-- The reference's run, its two results by the named arrays. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v32) : FVec Ideal S512x512 .f32) = Keys (m ((c.tc : Thread nD τ).loc main_arg0) : FVec Ideal S2x256x1024 .f32) (m ((c.tc : Thread nD τ).loc main_arg1) : FVec Ideal S1x1024 .f32) (m ((c.tc : Thread nD τ).loc main_arg2) : FVec Ideal S1x1024x1024 .f32) (m ((c.tc : Thread nD τ).loc main_arg3) : FVec Ideal S1x128 .f32)
      ∧ (r.2.mem ((c.tc : Thread nD τ).loc main_v34) : FVec Ideal S512x512 .f32) = Vals (m ((c.tc : Thread nD τ).loc main_arg0) : FVec Ideal S2x256x1024 .f32) (m ((c.tc : Thread nD τ).loc main_arg1) : FVec Ideal S1x1024 .f32) (m ((c.tc : Thread nD τ).loc main_arg2) : FVec Ideal S1x1024x1024 .f32)
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) :=
  (θ_run (defs (F := Ideal)) _ _).mono (fun _ h c => ⟨(h c).1.trans (by unfold Keys Hn Zh Z Xn; rfl), (h c).2.1.trans (by unfold Vals Z Xn; rfl), (h c).2.2⟩) (run m ρ)

/-- An index of rank two is made of its coordinates. -/
theorem idx2_eta {s0 s1 : ℕ} (y : (⟨2, ![s0, s1]⟩ : Shape).Idx) : y = ix2 (y 0) (y 1) := by
  funext k
  match k with
  | 0 => rfl
  | 1 => rfl

/-- A key of the reference at an index of its array. -/
theorem keys_at (X : FVec Ideal S2x256x1024 .f32) (G : FVec Ideal S1x1024 .f32) (W : FVec Ideal S1x1024x1024 .f32) (g : FVec Ideal S1x128 .f32)
    (b : Fin 2) (t : Fin 256) (y : S512x512.Idx) (hr : (y 0).val = b.val * 256 + t.val) :
    Keys X G W g y = heads128 (fun i => lin (fun k => X (ix3 b t k)) (fun k => G (ix2 0 k)) (fun k e => W (ix3 0 k e)) (Fin.castLE (by decide) i)) (fun d => g (ix2 0 d)) (y 1) := by
  refine ((congrArg (Keys X G W g) (idx2_eta y)).trans (Keys_eq X G W g b t (y 0) (y 1) hr)).trans ?_
  simp only [Z_eq]

/-- A value of the reference at an index of its array. -/
theorem vals_at (X : FVec Ideal S2x256x1024 .f32) (G : FVec Ideal S1x1024 .f32) (W : FVec Ideal S1x1024x1024 .f32)
    (b : Fin 2) (t : Fin 256) (y : S512x512.Idx) (j : Fin 512) (hj : y 1 = j) (hr : (y 0).val = b.val * 256 + t.val) :
    Vals X G W y = lin (fun k => X (ix3 b t k)) (fun k => G (ix2 0 k)) (fun k e => W (ix3 0 k e)) ⟨512 + j, by omega⟩ := by
  subst hj
  refine ((congrArg (Vals X G W) (idx2_eta y)).trans (Vals_eq X G W b t (y 0) (y 1) hr)).trans ?_
  rw [Z_eq]

end Cert.Reference3Ideal.Memkv
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FoxBits.Flash
public import proofs.«01_k».proof.Proof.FoxIdeal.After
public import proofs.«01_k».proof.Proof.FoxRef
public import proofs.«01_k».proof.Proof.DiffBits.Flash
public import proofs.«01_k».proof.Proof.DiffIdeal.After
public import proofs.«01_k».proof.Proof.DiffRef
public import proofs.«01_k».proof.Proof.Memkv.Final
public import proofs.«01_k».proof.Proof.Memkv.Run
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The reference leaves its arguments alone and every counter at zero. -/
theorem refFrame : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- The kernel's result array, by the running statistics over all the keys. -/
theorem foxRun (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0) = (fun y : Cert.KernelIdeal.S2x512x8192.Idx => Cert.KernelIdeal.Fox.spec m c (y 0) (y 1) (y 2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨((h.1 c).1 (3 : Fin 4)).trans (Cert.KernelIdeal.Fox.final m g c),
    ((h.1 c).1 (0 : Fin 4)).trans ((Cert.KernelIdeal.Fox.dats 0 m g 0 c).arrAt_in (0 : Fin 4) rfl _),
    ((h.1 c).1 (1 : Fin 4)).trans ((Cert.KernelIdeal.Fox.dats 0 m g 0 c).arrAt_in (1 : Fin 4) rfl _),
    ((h.1 c).1 (2 : Fin 4)).trans ((Cert.KernelIdeal.Fox.dats 0 m g 0 c).arrAt_in (2 : Fin 4) rfl _)⟩)
    (Cert.KernelIdeal.Fox.run_main_quiescent 0 m g)

/-- Kernel and reference are the same function of the queries, keys and values over the extended reals. -/
theorem foxAlgebraic : Cert.algebraic_KernelIdeal_ReferenceIdeal := by
  intro m g m' g' _ hargs
  refine ⟨fun c y => Cert.KernelIdeal.Fox.spec m c (y 0) (y 1) (y 2), foxRun m g, ?_⟩
  refine (θ_run Cert.ReferenceIdeal.defs _ _).mono (fun r h c => ⟨?_, (h c).2⟩) (Cert.ReferenceIdeal.Value.run m' g')
  rw [(h c).1]
  funext y
  obtain ⟨e0, e1, e2⟩ := hargs c
  exact (congrArg _ (Cert.ReferenceIdeal.Fox.idx3_eta y)).trans (Cert.ReferenceIdeal.Fox.res_eq m' c _ _ _ e0 e1 e2 (y 0) (y 1) (y 2))

/-- The second reference leaves its arguments alone and every counter at zero. -/
theorem ref2Frame : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run m ρ)

/-- The second kernel's result array, by the running statistics over all the keys. -/
theorem diffRun (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v0) = (fun y : Cert.Kernel2Ideal.S2x1024x8192.Idx => Cert.Kernel2Ideal.Diff.spec m c (y 0) (y 1) (y 2))
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)) :=
  (θ_run Cert.Kernel2Ideal.defs _ _).mono (fun _ h c =>
    ⟨((h.1 c).1 (3 : Fin 4)).trans (Cert.Kernel2Ideal.Diff.final m g c),
    ((h.1 c).1 (0 : Fin 4)).trans ((Cert.Kernel2Ideal.Diff.dats 0 m g 0 c).arrAt_in (0 : Fin 4) rfl _),
    ((h.1 c).1 (1 : Fin 4)).trans ((Cert.Kernel2Ideal.Diff.dats 0 m g 0 c).arrAt_in (1 : Fin 4) rfl _),
    ((h.1 c).1 (2 : Fin 4)).trans ((Cert.Kernel2Ideal.Diff.dats 0 m g 0 c).arrAt_in (2 : Fin 4) rfl _)⟩)
    (Cert.Kernel2Ideal.Diff.run_main_quiescent 0 m g)

/-- The second kernel and its reference are the same function of the queries, keys and values over the extended reals. -/
theorem diffAlgebraic : Cert.algebraic_Kernel2Ideal_Reference2Ideal := by
  intro m g m' g' _ hargs
  refine ⟨fun c y => Cert.Kernel2Ideal.Diff.spec m c (y 0) (y 1) (y 2), diffRun m g, ?_⟩
  refine (θ_run Cert.Reference2Ideal.defs _ _).mono (fun r h c => ⟨?_, (h c).2⟩) (Cert.Reference2Ideal.Value.run m' g')
  rw [(h c).1]
  funext y
  obtain ⟨e0, e1, e2⟩ := hargs c
  exact (congrArg _ (Cert.Reference2Ideal.Diff.idx3_eta y)).trans (Cert.Reference2Ideal.Diff.res_eq m' c _ _ _ e0 e1 e2 (y 0) (y 1) (Cert.Kernel2Ideal.Diff.vrow (y 1)) rfl (y 2))

/-- The third reference leaves its arguments alone and every counter at zero. -/
theorem ref3Frame : Cert.quiescent_Reference3Ideal := by
  intro m ρ _
  exact (θ_run Cert.Reference3Ideal.defs _ _).mono
    (fun r h => ⟨fun c => (h c).2.2, Idealize.ShloMosaic.sem_eq_zero_of_no_sems (by decide) r.2⟩)
    (Cert.Reference3Ideal.Value.run m ρ)

/-- The third kernel's two results, the memory's keys and its values, are its reference's over the extended reals. -/
theorem memkvAlgebraic : Cert.algebraic_Kernel3Ideal_Reference3Ideal := by
  intro m g m' g' _ hargs
  refine ⟨fun c y => Cert.Kernel3Ideal.Memkv.key m c ⟨(y 0).val / 256, by have := (y 0).isLt; change (y 0).val < 512 at this; omega⟩ ⟨(y 0).val % 256, by omega⟩ (y 1),
    fun c y => Cert.Kernel3Ideal.Memkv.val m c ⟨(y 0).val / 256, by have := (y 0).isLt; change (y 0).val < 512 at this; omega⟩ ⟨(y 0).val % 256, by omega⟩ (y 1), ?_, ?_⟩
  · refine (θ_run Cert.Kernel3Ideal.defs _ _).mono (fun r h c => ⟨?_, ?_, (h c).2.2⟩) (Cert.Kernel3Ideal.Value.run_blocks m g)
    · exact ((h c).1).trans (Cert.Kernel3Ideal.Memkv.final4 m c)
    · exact ((h c).2.1).trans (Cert.Kernel3Ideal.Memkv.final5 m c)
  · refine (θ_run Cert.Reference3Ideal.defs _ _).mono (fun r h c => ⟨?_, ?_, (h c).2.2⟩) (Cert.Reference3Ideal.Memkv.run_named m' g')
    · obtain ⟨e0, e1, e2, e3⟩ := hargs c
      rw [(h c).1, e0, e1, e2, e3]
      funext y
      exact Cert.Reference3Ideal.Memkv.keys_at _ _ _ _ _ _ y (by show (y 0).val = (y 0).val / 256 * 256 + (y 0).val % 256; omega)
    · obtain ⟨e0, e1, e2, e3⟩ := hargs c
      rw [(h c).2.1, e0, e1, e2]
      funext y
      exact Cert.Reference3Ideal.Memkv.vals_at _ _ _ _ _ y (y 1) rfl (by show (y 0).val = (y 0).val / 256 * 256 + (y 0).val % 256; omega)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  fun m ρ _ => Cert.Kernel.Fox.frame m ρ, fun m ρ _ => Cert.KernelIdeal.Fox.frame m ρ, refFrame,
  fun m ρ _ => Cert.Kernel2.Diff.frame m ρ, fun m ρ _ => Cert.Kernel2Ideal.Diff.frame m ρ, ref2Frame,
  fun m ρ _ => Cert.Kernel3.Gen.frame m ρ, fun m ρ _ => Cert.Kernel3Ideal.Gen.frame m ρ, ref3Frame,
  trivial, foxAlgebraic, trivial, diffAlgebraic, trivial, memkvAlgebraic⟩

end Cert.Proof

end
